-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S768x8 : Shape := ⟨2, ![768, 8]⟩
abbrev S8 : Shape := ⟨1, ![8]⟩
abbrev S8x8x32 : Shape := ⟨3, ![8, 8, 32]⟩
abbrev S8x32 : Shape := ⟨2, ![8, 32]⟩
abbrev S8x32x768 : Shape := ⟨3, ![8, 32, 768]⟩
abbrev S8x768 : Shape := ⟨2, ![8, 768]⟩
abbrev S32768x768 : Shape := ⟨2, ![32768, 768]⟩
abbrev S1x8 : Shape := ⟨2, ![1, 8]⟩
abbrev S1x8x32 : Shape := ⟨3, ![1, 8, 32]⟩
abbrev S1x32 : Shape := ⟨2, ![1, 32]⟩
abbrev S32 : Shape := ⟨1, ![32]⟩
abbrev S1x32x768 : Shape := ⟨3, ![1, 32, 768]⟩
abbrev S32x768 : Shape := ⟨2, ![32, 768]⟩
abbrev S1x768 : Shape := ⟨2, ![1, 768]⟩
abbrev S768 : Shape := ⟨1, ![768]⟩
abbrev S2x4096x768 : Shape := ⟨3, ![2, 4096, 768]⟩
abbrev S2x4 : Shape := ⟨2, ![2, 4]⟩
abbrev S1x1 : Shape := ⟨2, ![1, 1]⟩
abbrev S_ : Shape := ⟨0, ![]⟩
abbrev S1x1024x768 : Shape := ⟨3, ![1, 1024, 768]⟩
abbrev S1024x768 : Shape := ⟨2, ![1024, 768]⟩
abbrev S1024x8 : Shape := ⟨2, ![1024, 8]⟩
abbrev S1024 : Shape := ⟨1, ![1024]⟩
abbrev S1024x1 : Shape := ⟨2, ![1024, 1]⟩
abbrev S1024x32 : Shape := ⟨2, ![1024, 32]⟩

abbrev nBuf : Space → Nat
  | .hbm => 21
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S768x8, .f32⟩
  | .hbm, ⟨2, _⟩ => ⟨S8, .f32⟩
  | .hbm, ⟨3, _⟩ => ⟨S8x8x32, .f32⟩
  | .hbm, ⟨4, _⟩ => ⟨S8x32, .f32⟩
  | .hbm, ⟨5, _⟩ => ⟨S8x32x768, .f32⟩
  | .hbm, ⟨6, _⟩ => ⟨S8x768, .f32⟩
  | .hbm, ⟨7, _⟩ => ⟨S32768x768, .f32⟩
  | .hbm, ⟨8, _⟩ => ⟨S1x8, .f32⟩
  | .hbm, ⟨9, _⟩ => ⟨S1x8x32, .f32⟩
  | .hbm, ⟨10, _⟩ => ⟨S8x32, .f32⟩
  | .hbm, ⟨11, _⟩ => ⟨S1x32, .f32⟩
  | .hbm, ⟨12, _⟩ => ⟨S32, .f32⟩
  | .hbm, ⟨13, _⟩ => ⟨S1x32, .f32⟩
  | .hbm, ⟨14, _⟩ => ⟨S1x32x768, .f32⟩
  | .hbm, ⟨15, _⟩ => ⟨S32x768, .f32⟩
  | .hbm, ⟨16, _⟩ => ⟨S1x768, .f32⟩
  | .hbm, ⟨17, _⟩ => ⟨S768, .f32⟩
  | .hbm, ⟨18, _⟩ => ⟨S1x768, .f32⟩
  | .hbm, ⟨19, _⟩ => ⟨S32768x768, .f32⟩
  | .hbm, ⟨20, _⟩ => ⟨S4x8192x768, .f32⟩
  | .local _ .vmem, ⟨0, _⟩ => ⟨S768x8, .f32⟩
  | .local _ .vmem, ⟨1, _⟩ => ⟨S1x8, .f32⟩
  | .local _ .vmem, ⟨2, _⟩ => ⟨S8x32, .f32⟩
  | .local _ .vmem, ⟨3, _⟩ => ⟨S1x32, .f32⟩
  | .local _ .vmem, ⟨4, _⟩ => ⟨S32x768, .f32⟩
  | .local _ .vmem, ⟨5, _⟩ => ⟨S1x768, .f32⟩
  | .local _ .vmem, ⟨6, _⟩ => ⟨S2x4096x768, .f32⟩
  | .local _ .vmem, ⟨7, _⟩ => ⟨S2x4096x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32_2 : BitVec 32 := 2#32
  let v5 : BitVec 1 := Scalar.cmpi .sge arg0 c2_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c2_i32_1 : BitVec 32 := 2#32
  let v4 : BitVec 32 := Scalar.remsi arg0 c2_i32_1
  let c0_i32_152 : BitVec 32 := 0#32
  ![v4.toNat, 0]
def k0_off2 (i : grid0.Coords) (c0_i32_151 : BitVec 32) : Fin 2 → Nat :=
  let arg0 : BitVec 32 := BitVec.ofNat 32 (i 0).val
  let c2_i32_149 : BitVec 32 := 2#32
  let v259 : BitVec 32 := Scalar.subi arg0 c2_i32_149
  let c4096_i32_150 : BitVec 32 := 4096#32
  let v260 : BitVec 32 := Scalar.muli v259 c4096_i32_150
  let v261 : BitVec 32 := Scalar.addi v260 c0_i32_151
  let c0_i32_153 : BitVec 32 := 0#32
  ![v261.toNat, 0]
def k0_off3 (i : grid0.Coords) : Fin 3 → Nat :=
  let arg0 : BitVec 32 := BitVec.ofNat 32 (i 0).val
  let c2_i32_1 : BitVec 32 := 2#32
  let v4 : BitVec 32 := Scalar.remsi arg0 c2_i32_1
  let c0_i32_154 : BitVec 32 := 0#32
  let c0_i32_155 : BitVec 32 := 0#32
  ![v4.toNat, 0, 0]
def k0_off4 (i : grid0.Coords) : Fin 2 → Nat :=
  let arg0 : BitVec 32 := BitVec.ofNat 32 (i 0).val
  let c2_i32_1 : BitVec 32 := 2#32
  let v4 : BitVec 32 := Scalar.remsi arg0 c2_i32_1
  let c1_i32_158 : BitVec 32 := 1#32
  ![v4.toNat, 1]
def k0_off5 (i : grid0.Coords) : Fin 3 → Nat :=
  let arg0 : BitVec 32 := BitVec.ofNat 32 (i 0).val
  let c2_i32_1 : BitVec 32 := 2#32
  let v4 : BitVec 32 := Scalar.remsi arg0 c2_i32_1
  let c1024_i32_160 : BitVec 32 := 1024#32
  let c0_i32_161 : BitVec 32 := 0#32
  ![v4.toNat, 1024, 0]
def k0_off6 (i : grid0.Coords) : Fin 2 → Nat :=
  let arg0 : BitVec 32 := BitVec.ofNat 32 (i 0).val
  let c2_i32_1 : BitVec 32 := 2#32
  let v4 : BitVec 32 := Scalar.remsi arg0 c2_i32_1
  let c2_i32_164 : BitVec 32 := 2#32
  ![v4.toNat, 2]
def k0_off7 (i : grid0.Coords) : Fin 3 → Nat :=
  let arg0 : BitVec 32 := BitVec.ofNat 32 (i 0).val
  let c2_i32_1 : BitVec 32 := 2#32
  let v4 : BitVec 32 := Scalar.remsi arg0 c2_i32_1
  let c2048_i32_166 : BitVec 32 := 2048#32
  let c0_i32_167 : BitVec 32 := 0#32
  ![v4.toNat, 2048, 0]
def k0_off8 (i : grid0.Coords) : Fin 2 → Nat :=
  let arg0 : BitVec 32 := BitVec.ofNat 32 (i 0).val
  let c2_i32_1 : BitVec 32 := 2#32
  let v4 : BitVec 32 := Scalar.remsi arg0 c2_i32_1
  let c3_i32_170 : BitVec 32 := 3#32
  ![v4.toNat, 3]
def k0_off9 (i : grid0.Coords) : Fin 3 → Nat :=
  let arg0 : BitVec 32 := BitVec.ofNat 32 (i 0).val
  let c2_i32_1 : BitVec 32 := 2#32
  let v4 : BitVec 32 := Scalar.remsi arg0 c2_i32_1
  let c3072_i32_172 : BitVec 32 := 3072#32
  let c0_i32_173 : BitVec 32 := 0#32
  ![v4.toNat, 3072, 0]
def k0_off10 (i : grid0.Coords) : Fin 2 → Nat :=
  let arg0 : BitVec 32 := BitVec.ofNat 32 (i 0).val
  let c2_i32 : BitVec 32 := 2#32
  let v3 : BitVec 32 := Scalar.remsi arg0 c2_i32
  let c0_i32_5 : BitVec 32 := 0#32
  ![v3.toNat, 0]
def k0_off11 (i : grid0.Coords) : Fin 3 → Nat :=
  let arg0 : BitVec 32 := BitVec.ofNat 32 (i 0).val
  let c2_i32 : BitVec 32 := 2#32
  let v3 : BitVec 32 := Scalar.remsi arg0 c2_i32
  let c0_i32_6 : BitVec 32 := 0#32
  let c0_i32_7 : BitVec 32 := 0#32
  ![v3.toNat, 0, 0]
def k0_off12 (i : grid0.Coords) (c0_i32_4 : BitVec 32) : Fin 2 → Nat :=
  let arg0 : BitVec 32 := BitVec.ofNat 32 (i 0).val
  let c4096_i32 : BitVec 32 := 4096#32
  let v8 : BitVec 32 := Scalar.muli arg0 c4096_i32
  let v9 : BitVec 32 := Scalar.addi v8 c0_i32_4
  let c0_i32_8 : BitVec 32 := 0#32
  ![v9.toNat, 0]
def k0_off13 (i : grid0.Coords) : Fin 2 → Nat :=
  let arg0 : BitVec 32 := BitVec.ofNat 32 (i 0).val
  let c2_i32 : BitVec 32 := 2#32
  let v3 : BitVec 32 := Scalar.remsi arg0 c2_i32
  let c1_i32 : BitVec 32 := 1#32
  ![v3.toNat, 1]
def k0_off14 (i : grid0.Coords) : Fin 3 → Nat :=
  let arg0 : BitVec 32 := BitVec.ofNat 32 (i 0).val
  let c2_i32 : BitVec 32 := 2#32
  let v3 : BitVec 32 := Scalar.remsi arg0 c2_i32
  let c1024_i32_10 : BitVec 32 := 1024#32
  let c0_i32_11 : BitVec 32 := 0#32
  ![v3.toNat, 1024, 0]
def k0_off15 (i : grid0.Coords) : Fin 2 → Nat :=
  let arg0 : BitVec 32 := BitVec.ofNat 32 (i 0).val
  let c2_i32 : BitVec 32 := 2#32
  let v3 : BitVec 32 := Scalar.remsi arg0 c2_i32
  let c2_i32_14 : BitVec 32 := 2#32
  ![v3.toNat, 2]
def k0_off16 (i : grid0.Coords) : Fin 3 → Nat :=
  let arg0 : BitVec 32 := BitVec.ofNat 32 (i 0).val
  let c2_i32 : BitVec 32 := 2#32
  let v3 : BitVec 32 := Scalar.remsi arg0 c2_i32
  let c2048_i32_15 : BitVec 32 := 2048#32
  let c0_i32_16 : BitVec 32 := 0#32
  ![v3.toNat, 2048, 0]
def k0_off17 (i : grid0.Coords) : Fin 2 → Nat :=
  let arg0 : BitVec 32 := BitVec.ofNat 32 (i 0).val
  let c2_i32 : BitVec 32 := 2#32
  let v3 : BitVec 32 := Scalar.remsi arg0 c2_i32
  let c3_i32 : BitVec 32 := 3#32
  ![v3.toNat, 3]
def k0_off18 (i : grid0.Coords) : Fin 3 → Nat :=
  let arg0 : BitVec 32 := BitVec.ofNat 32 (i 0).val
  let c2_i32 : BitVec 32 := 2#32
  let v3 : BitVec 32 := Scalar.remsi arg0 c2_i32
  let c3072_i32_19 : BitVec 32 := 3072#32
  let c0_i32_20 : BitVec 32 := 0#32
  ![v3.toNat, 3072, 0]
def k0_off19 (i : grid0.Coords) : Fin 3 → Nat :=
  let arg0 : BitVec 32 := BitVec.ofNat 32 (i 0).val
  let c2_i32 : BitVec 32 := 2#32
  let v3 : BitVec 32 := Scalar.remsi arg0 c2_i32
  let v36 : Index := Scalar.indexCast v3
  let c0 : Index := 0#32
  let c0_22 : Index := 0#32
  ![v36.toNat, 0, 0]
def k0_cond3 (i : grid0.Coords) : BitVec 1 :=
  let arg0 : BitVec 32 := BitVec.ofNat 32 (i 0).val
  let c2_i32_50 : BitVec 32 := 2#32
  let v87 : BitVec 32 := Scalar.addi arg0 c2_i32_50
  let c8_i32 : BitVec 32 := 8#32
  let v88 : BitVec 1 := Scalar.cmpi .slt v87 c8_i32
  let v89 : BitVec 32 := Scalar.extui v88
  let c0_i32_51 : BitVec 32 := 0#32
  let v90 : BitVec 1 := Scalar.cmpi .ne v89 c0_i32_51
  v90

def k0_off20 (i : grid0.Coords) : Fin 2 → Nat :=
  let arg0 : BitVec 32 := BitVec.ofNat 32 (i 0).val
  let c2_i32 : BitVec 32 := 2#32
  let v3 : BitVec 32 := Scalar.remsi arg0 c2_i32
  let c0_i32_152 : BitVec 32 := 0#32
  ![v3.toNat, 0]
def k0_off21 (i : grid0.Coords) : Fin 3 → Nat :=
  let arg0 : BitVec 32 := BitVec.ofNat 32 (i 0).val
  let c2_i32 : BitVec 32 := 2#32
  let v3 : BitVec 32 := Scalar.remsi arg0 c2_i32
  let c0_i32_153 : BitVec 32 := 0#32
  let c0_i32_154 : BitVec 32 := 0#32
  ![v3.toNat, 0, 0]
def k0_off22 (i : grid0.Coords) : Fin 2 → Nat :=
  let arg0 : BitVec 32 := BitVec.ofNat 32 (i 0).val
  let c2_i32_149 : BitVec 32 := 2#32
  let v259 : BitVec 32 := Scalar.addi arg0 c2_i32_149
  let c4096_i32_150 : BitVec 32 := 4096#32
  let v260 : BitVec 32 := Scalar.muli v259 c4096_i32_150
  let c0_i32_151 : BitVec 32 := 0#32
  let v261 : BitVec 32 := Scalar.addi v260 c0_i32_151
  let c0_i32_155 : BitVec 32 := 0#32
  ![v261.toNat, 0]
def k0_off23 (i : grid0.Coords) : Fin 3 → Nat :=
  let arg0 : BitVec 32 := BitVec.ofNat 32 (i 0).val
  let c2_i32 : BitVec 32 := 2#32
  let v3 : BitVec 32 := Scalar.remsi arg0 c2_i32
  let v91 : Index := Scalar.indexCast v3
  let c1024 : Index := 1024#32
  let c0_52 : Index := 0#32
  ![v91.toNat, 1024, 0]
def k0_cond4 (i : grid0.Coords) : BitVec 1 :=
  let arg0 : BitVec 32 := BitVec.ofNat 32 (i 0).val
  let c2_i32_81 : BitVec 32 := 2#32
  let v142 : BitVec 32 := Scalar.addi arg0 c2_i32_81
  let c8_i32_82 : BitVec 32 := 8#32
  let v143 : BitVec 1 := Scalar.cmpi .slt v142 c8_i32_82
  let v144 : BitVec 32 := Scalar.extui v143
  let c0_i32_83 : BitVec 32 := 0#32
  let v145 : BitVec 1 := Scalar.cmpi .ne v144 c0_i32_83
  v145

def k0_off24 (i : grid0.Coords) : Fin 2 → Nat :=
  let arg0 : BitVec 32 := BitVec.ofNat 32 (i 0).val
  let c2_i32 : BitVec 32 := 2#32
  let v3 : BitVec 32 := Scalar.remsi arg0 c2_i32
  let c1_i32_152 : BitVec 32 := 1#32
  ![v3.toNat, 1]
def k0_off25 (i : grid0.Coords) : Fin 3 → Nat :=
  let arg0 : BitVec 32 := BitVec.ofNat 32 (i 0).val
  let c2_i32 : BitVec 32 := 2#32
  let v3 : BitVec 32 := Scalar.remsi arg0 c2_i32
  let c1024_i32_153 : BitVec 32 := 1024#32
  let c0_i32_154 : BitVec 32 := 0#32
  ![v3.toNat, 1024, 0]
def k0_off26 (i : grid0.Coords) : Fin 2 → Nat :=
  let arg0 : BitVec 32 := BitVec.ofNat 32 (i 0).val
  let c2_i32_149 : BitVec 32 := 2#32
  let v259 : BitVec 32 := Scalar.addi arg0 c2_i32_149
  let c4096_i32_150 : BitVec 32 := 4096#32
  let v260 : BitVec 32 := Scalar.muli v259 c4096_i32_150
  let c1024_i32_151 : BitVec 32 := 1024#32
  let v261 : BitVec 32 := Scalar.addi v260 c1024_i32_151
  let c0_i32_155 : BitVec 32 := 0#32
  ![v261.toNat, 0]
def k0_off27 (i : grid0.Coords) : Fin 3 → Nat :=
  let arg0 : BitVec 32 := BitVec.ofNat 32 (i 0).val
  let c2_i32 : BitVec 32 := 2#32
  let v3 : BitVec 32 := Scalar.remsi arg0 c2_i32
  let v146 : Index := Scalar.indexCast v3
  let c2048 : Index := 2048#32
  let c0_84 : Index := 0#32
  ![v146.toNat, 2048, 0]
def k0_cond5 (i : grid0.Coords) : BitVec 1 :=
  let arg0 : BitVec 32 := BitVec.ofNat 32 (i 0).val
  let c2_i32_113 : BitVec 32 := 2#32
  let v197 : BitVec 32 := Scalar.addi arg0 c2_i32_113
  let c8_i32_114 : BitVec 32 := 8#32
  let v198 : BitVec 1 := Scalar.cmpi .slt v197 c8_i32_114
  let v199 : BitVec 32 := Scalar.extui v198
  let c0_i32_115 : BitVec 32 := 0#32
  let v200 : BitVec 1 := Scalar.cmpi .ne v199 c0_i32_115
  v200

def k0_off28 (i : grid0.Coords) : Fin 2 → Nat :=
  let arg0 : BitVec 32 := BitVec.ofNat 32 (i 0).val
  let c2_i32 : BitVec 32 := 2#32
  let v3 : BitVec 32 := Scalar.remsi arg0 c2_i32
  let c2_i32_152 : BitVec 32 := 2#32
  ![v3.toNat, 2]
def k0_off29 (i : grid0.Coords) : Fin 3 → Nat :=
  let arg0 : BitVec 32 := BitVec.ofNat 32 (i 0).val
  let c2_i32 : BitVec 32 := 2#32
  let v3 : BitVec 32 := Scalar.remsi arg0 c2_i32
  let c2048_i32_153 : BitVec 32 := 2048#32
  let c0_i32_154 : BitVec 32 := 0#32
  ![v3.toNat, 2048, 0]
def k0_off30 (i : grid0.Coords) : Fin 2 → Nat :=
  let arg0 : BitVec 32 := BitVec.ofNat 32 (i 0).val
  let c2_i32_149 : BitVec 32 := 2#32
  let v259 : BitVec 32 := Scalar.addi arg0 c2_i32_149
  let c4096_i32_150 : BitVec 32 := 4096#32
  let v260 : BitVec 32 := Scalar.muli v259 c4096_i32_150
  let c2048_i32_151 : BitVec 32 := 2048#32
  let v261 : BitVec 32 := Scalar.addi v260 c2048_i32_151
  let c0_i32_155 : BitVec 32 := 0#32
  ![v261.toNat, 0]
def k0_off31 (i : grid0.Coords) : Fin 3 → Nat :=
  let arg0 : BitVec 32 := BitVec.ofNat 32 (i 0).val
  let c2_i32 : BitVec 32 := 2#32
  let v3 : BitVec 32 := Scalar.remsi arg0 c2_i32
  let v201 : Index := Scalar.indexCast v3
  let c3072 : Index := 3072#32
  let c0_116 : Index := 0#32
  ![v201.toNat, 3072, 0]
def k0_cond6 (i : grid0.Coords) : BitVec 1 :=
  let arg0 : BitVec 32 := BitVec.ofNat 32 (i 0).val
  let c2_i32_145 : BitVec 32 := 2#32
  let v252 : BitVec 32 := Scalar.addi arg0 c2_i32_145
  let c8_i32_146 : BitVec 32 := 8#32
  let v253 : BitVec 1 := Scalar.cmpi .slt v252 c8_i32_146
  let v254 : BitVec 32 := Scalar.extui v253
  let c0_i32_147 : BitVec 32 := 0#32
  let v255 : BitVec 1 := Scalar.cmpi .ne v254 c0_i32_147
  v255

def k0_off32 (i : grid0.Coords) : Fin 2 → Nat :=
  let arg0 : BitVec 32 := BitVec.ofNat 32 (i 0).val
  let c2_i32 : BitVec 32 := 2#32
  let v3 : BitVec 32 := Scalar.remsi arg0 c2_i32
  let c3_i32_152 : BitVec 32 := 3#32
  ![v3.toNat, 3]
def k0_off33 (i : grid0.Coords) : Fin 3 → Nat :=
  let arg0 : BitVec 32 := BitVec.ofNat 32 (i 0).val
  let c2_i32 : BitVec 32 := 2#32
  let v3 : BitVec 32 := Scalar.remsi arg0 c2_i32
  let c3072_i32_153 : BitVec 32 := 3072#32
  let c0_i32_154 : BitVec 32 := 0#32
  ![v3.toNat, 3072, 0]
def k0_off34 (i : grid0.Coords) : Fin 2 → Nat :=
  let arg0 : BitVec 32 := BitVec.ofNat 32 (i 0).val
  let c2_i32_149 : BitVec 32 := 2#32
  let v259 : BitVec 32 := Scalar.addi arg0 c2_i32_149
  let c4096_i32_150 : BitVec 32 := 4096#32
  let v260 : BitVec 32 := Scalar.muli v259 c4096_i32_150
  let c3072_i32_151 : BitVec 32 := 3072#32
  let v261 : BitVec 32 := Scalar.addi v260 c3072_i32_151
  let c0_i32_155 : BitVec 32 := 0#32
  ![v261.toNat, 0]
def k0_cond7 (i : grid0.Coords) : BitVec 1 :=
  let arg0 : BitVec 32 := BitVec.ofNat 32 (i 0).val
  let c7_i32 : BitVec 32 := 7#32
  let v256 : BitVec 1 := Scalar.cmpi .eq arg0 c7_i32
  let v257 : BitVec 32 := Scalar.extui v256
  let c0_i32_148 : BitVec 32 := 0#32
  let v258 : BitVec 1 := Scalar.cmpi .ne v257 c0_i32_148
  v258

def k0_off35 (i : grid0.Coords) (c0_i32_150 : BitVec 32) : Fin 2 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c0_i32_154 : BitVec 32 := 0#32
  ![v261.toNat, 0]
def k0_off36 (i : grid0.Coords) (c0_i32_150 : BitVec 32) (c0_i32_153 : BitVec 32) : Fin 2 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c4096_i32_152 : BitVec 32 := 4096#32
  let v262 : BitVec 32 := Scalar.muli v260 c4096_i32_152
  let v263 : BitVec 32 := Scalar.addi v262 c0_i32_153
  let c0_i32_155 : BitVec 32 := 0#32
  ![v263.toNat, 0]
def k0_off37 (i : grid0.Coords) (c0_i32_150 : BitVec 32) : Fin 3 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c0_i32_156 : BitVec 32 := 0#32
  let c0_i32_157 : BitVec 32 := 0#32
  ![v261.toNat, 0, 0]
def k0_off38 (i : grid0.Coords) (c0_i32_150 : BitVec 32) : Fin 2 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c1_i32_160 : BitVec 32 := 1#32
  ![v261.toNat, 1]
def k0_off39 (i : grid0.Coords) (c0_i32_150 : BitVec 32) : Fin 3 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c1024_i32_162 : BitVec 32 := 1024#32
  let c0_i32_163 : BitVec 32 := 0#32
  ![v261.toNat, 1024, 0]
def k0_off40 (i : grid0.Coords) (c0_i32_150 : BitVec 32) : Fin 2 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c2_i32_166 : BitVec 32 := 2#32
  ![v261.toNat, 2]
def k0_off41 (i : grid0.Coords) (c0_i32_150 : BitVec 32) : Fin 3 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c2048_i32_168 : BitVec 32 := 2048#32
  let c0_i32_169 : BitVec 32 := 0#32
  ![v261.toNat, 2048, 0]
def k0_off42 (i : grid0.Coords) (c0_i32_150 : BitVec 32) : Fin 2 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c3_i32_172 : BitVec 32 := 3#32
  ![v261.toNat, 3]
def k0_off43 (i : grid0.Coords) (c0_i32_150 : BitVec 32) : Fin 3 → Nat :=
  let arg0 : BitVec 32 := BitVec.ofNat 32 (i 0).val
  let c1_i32_149 : BitVec 32 := 1#32
  let v259 : BitVec 32 := Scalar.subi arg0 c1_i32_149
  let v260 : BitVec 32 := Scalar.addi v259 c0_i32_150
  let c2_i32_151 : BitVec 32 := 2#32
  let v261 : BitVec 32 := Scalar.remsi v260 c2_i32_151
  let c3072_i32_174 : BitVec 32 := 3072#32
  let c0_i32_175 : BitVec 32 := 0#32
  ![v261.toNat, 3072, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x8192x768 : Shape := ⟨3, ![4, 8192, 768]⟩
abbrev S768x8 : Shape := ⟨2, ![768, 8]⟩
abbrev S8 : Shape := ⟨1, ![8]⟩
abbrev S8x8x32 : Shape := ⟨3, ![8, 8, 32]⟩
abbrev S8x32 : Shape := ⟨2, ![8, 32]⟩
abbrev S8x32x768 : Shape := ⟨3, ![8, 32, 768]⟩
abbrev S8x768 : Shape := ⟨2, ![8, 768]⟩
abbrev S4x8192x8 : Shape := ⟨3, ![4, 8192, 8]⟩
abbrev S1x1x8 : Shape := ⟨3, ![1, 1, 8]⟩
abbrev S_ : Shape := ⟨0, ![]⟩
abbrev S4x8192 : Shape := ⟨2, ![4, 8192]⟩
abbrev S4x8192x1 : Shape := ⟨3, ![4, 8192, 1]⟩
abbrev S1x8x32 : Shape := ⟨3, ![1, 8, 32]⟩
abbrev S4x8192x32 : Shape := ⟨3, ![4, 8192, 32]⟩
abbrev S1x32 : Shape := ⟨2, ![1, 32]⟩
abbrev S32 : Shape := ⟨1, ![32]⟩
abbrev S1x1x32 : Shape := ⟨3, ![1, 1, 32]⟩
abbrev S1x32x768 : Shape := ⟨3, ![1, 32, 768]⟩
abbrev S32x768 : Shape := ⟨2, ![32, 768]⟩
abbrev S1x768 : Shape := ⟨2, ![1, 768]⟩
abbrev S768 : Shape := ⟨1, ![768]⟩
abbrev S1x1x768 : Shape := ⟨3, ![1, 1, 768]⟩

abbrev nBuf : Space → Nat
  | .hbm => 225
  | .vmem => 0
  | .smem => 0
  | _ => 0

abbrev hbmTy0_0 (i : Nat) : BufTy := match i % 128 with
  | 0 => ⟨S4x8192x768, .f32⟩
  | 1 => ⟨S768x8, .f32⟩
  | 2 => ⟨S8, .f32⟩
  | 3 => ⟨S8x8x32, .f32⟩
  | 4 => ⟨S8x32, .f32⟩
  | 5 => ⟨S8x32x768, .f32⟩
  | 6 => ⟨S8x768, .f32⟩
  | 7 => ⟨S4x8192x8, .f32⟩
  | 8 => ⟨S1x1x8, .f32⟩
  | 9 => ⟨S4x8192x8, .f32⟩
  | 10 => ⟨S4x8192x8, .f32⟩
  | 11 => ⟨S_, .f32⟩
  | 12 => ⟨S4x8192, .f32⟩
  | 13 => ⟨S_, .f32⟩
  | 14 => ⟨S4x8192, .f32⟩
  | 15 => ⟨S4x8192, .f32⟩
  | 16 => ⟨S4x8192x1, .f32⟩
  | 17 => ⟨S4x8192x8, .f32⟩
  | 18 => ⟨S4x8192x8, .f32⟩
  | 19 => ⟨S4x8192x8, .f32⟩
  | 20 => ⟨S_, .f32⟩
  | 21 => ⟨S4x8192, .f32⟩
  | 22 => ⟨S4x8192x1, .f32⟩
  | 23 => ⟨S4x8192x8, .f32⟩
  | 24 => ⟨S4x8192x8, .f32⟩
  | 25 => ⟨S1x8x32, .f32⟩
  | 26 => ⟨S8x32, .f32⟩
  | 27 => ⟨S4x8192x32, .f32⟩
  | 28 => ⟨S1x32, .f32⟩
  | 29 => ⟨S32, .f32⟩
  | 30 => ⟨S1x1x32, .f32⟩
  | 31 => ⟨S4x8192x32, .f32⟩
  | 32 => ⟨S4x8192x32, .f32⟩
  | 33 => ⟨S_, .f32⟩
  | 34 => ⟨S4x8192x32, .f32⟩
  | 35 => ⟨S4x8192x32, .f32⟩
  | 36 => ⟨S4x8192x32, .f32⟩
  | 37 => ⟨S_, .f32⟩
  | 38 => ⟨S4x8192x32, .f32⟩
  | 39 => ⟨S4x8192x32, .f32⟩
  | 40 => ⟨S4x8192x32, .f32⟩
  | 41 => ⟨S4x8192x32, .f32⟩
  | 42 => ⟨S1x32x768, .f32⟩
  | 43 => ⟨S32x768, .f32⟩
  | 44 => ⟨S4x8192x768, .f32⟩
  | 45 => ⟨S1x768, .f32⟩
  | 46 => ⟨S768, .f32⟩
  | 47 => ⟨S1x1x768, .f32⟩
  | 48 => ⟨S4x8192x768, .f32⟩
  | 49 => ⟨S4x8192x768, .f32⟩
  | 50 => ⟨S1x8x32, .f32⟩
  | 51 => ⟨S8x32, .f32⟩
  | 52 => ⟨S4x8192x32, .f32⟩
  | 53 => ⟨S1x32, .f32⟩
  | 54 => ⟨S32, .f32⟩
  | 55 => ⟨S1x1x32, .f32⟩
  | 56 => ⟨S4x8192x32, .f32⟩
  | 57 => ⟨S4x8192x32, .f32⟩
  | 58 => ⟨S_, .f32⟩
  | 59 => ⟨S4x8192x32, .f32⟩
  | 60 => ⟨S4x8192x32, .f32⟩
  | 61 => ⟨S4x8192x32, .f32⟩
  | 62 => ⟨S_, .f32⟩
  | 63 => ⟨S4x8192x32, .f32⟩
  | 64 => ⟨S4x8192x32, .f32⟩
  | 65 => ⟨S4x8192x32, .f32⟩
  | 66 => ⟨S4x8192x32, .f32⟩
  | 67 => ⟨S1x32x768, .f32⟩
  | 68 => ⟨S32x768, .f32⟩
  | 69 => ⟨S4x8192x768, .f32⟩
  | 70 => ⟨S1x768, .f32⟩
  | 71 => ⟨S768, .f32⟩
  | 72 => ⟨S1x1x768, .f32⟩
  | 73 => ⟨S4x8192x768, .f32⟩
  | 74 => ⟨S4x8192x768, .f32⟩
  | 75 => ⟨S1x8x32, .f32⟩
  | 76 => ⟨S8x32, .f32⟩
  | 77 => ⟨S4x8192x32, .f32⟩
  | 78 => ⟨S1x32, .f32⟩
  | 79 => ⟨S32, .f32⟩
  | 80 => ⟨S1x1x32, .f32⟩
  | 81 => ⟨S4x8192x32, .f32⟩
  | 82 => ⟨S4x8192x32, .f32⟩
  | 83 => ⟨S_, .f32⟩
  | 84 => ⟨S4x8192x32, .f32⟩
  | 85 => ⟨S4x8192x32, .f32⟩
  | 86 => ⟨S4x8192x32, .f32⟩
  | 87 => ⟨S_, .f32⟩
  | 88 => ⟨S4x8192x32, .f32⟩
  | 89 => ⟨S4x8192x32, .f32⟩
  | 90 => ⟨S4x8192x32, .f32⟩
  | 91 => ⟨S4x8192x32, .f32⟩
  | 92 => ⟨S1x32x768, .f32⟩
  | 93 => ⟨S32x768, .f32⟩
  | 94 => ⟨S4x8192x768, .f32⟩
  | 95 => ⟨S1x768, .f32⟩
  | 96 => ⟨S768, .f32⟩
  | 97 => ⟨S1x1x768, .f32⟩
  | 98 => ⟨S4x8192x768, .f32⟩
  | 99 => ⟨S4x8192x768, .f32⟩
  | 100 => ⟨S1x8x32, .f32⟩
  | 101 => ⟨S8x32, .f32⟩
  | 102 => ⟨S4x8192x32, .f32⟩
  | 103 => ⟨S1x32, .f32⟩
  | 104 => ⟨S32, .f32⟩
  | 105 => ⟨S1x1x32, .f32⟩
  | 106 => ⟨S4x8192x32, .f32⟩
  | 107 => ⟨S4x8192x32, .f32⟩
  | 108 => ⟨S_, .f32⟩
  | 109 => ⟨S4x8192x32, .f32⟩
  | 110 => ⟨S4x8192x32, .f32⟩
  | 111 => ⟨S4x8192x32, .f32⟩
  | 112 => ⟨S_, .f32⟩
  | 113 => ⟨S4x8192x32, .f32⟩
  | 114 => ⟨S4x8192x32, .f32⟩
  | 115 => ⟨S4x8192x32, .f32⟩
  | 116 => ⟨S4x8192x32, .f32⟩
  | 117 => ⟨S1x32x768, .f32⟩
  | 118 => ⟨S32x768, .f32⟩
  | 119 => ⟨S4x8192x768, .f32⟩
  | 120 => ⟨S1x768, .f32⟩
  | 121 => ⟨S768, .f32⟩
  | 122 => ⟨S1x1x768, .f32⟩
  | 123 => ⟨S4x8192x768, .f32⟩
  | 124 => ⟨S4x8192x768, .f32⟩
  | 125 => ⟨S1x8x32, .f32⟩
  | 126 => ⟨S8x32, .f32⟩
  | 127 => ⟨S4x8192x32, .f32⟩
  | _ => ⟨S4x8192x768, .f32⟩

abbrev hbmTy0_1 (i : Nat) : BufTy := match i % 128 with
  | 0 => ⟨S1x32, .f32⟩
  | 1 => ⟨S32, .f32⟩
  | 2 => ⟨S1x1x32, .f32⟩
  | 3 => ⟨S4x8192x32, .f32⟩
  | 4 => ⟨S4x8192x32, .f32⟩
  | 5 => ⟨S_, .f32⟩
  | 6 => ⟨S4x8192x32, .f32⟩
  | 7 => ⟨S4x8192x32, .f32⟩
  | 8 => ⟨S4x8192x32, .f32⟩
  | 9 => ⟨S_, .f32⟩
  | 10 => ⟨S4x8192x32, .f32⟩
  | 11 => ⟨S4x8192x32, .f32⟩
  | 12 => ⟨S4x8192x32, .f32⟩
  | 13 => ⟨S4x8192x32, .f32⟩
  | 14 => ⟨S1x32x768, .f32⟩
  | 15 => ⟨S32x768, .f32⟩
  | 16 => ⟨S4x8192x768, .f32⟩
  | 17 => ⟨S1x768, .f32⟩
  | 18 => ⟨S768, .f32⟩
  | 19 => ⟨S1x1x768, .f32⟩
  | 20 => ⟨S4x8192x768, .f32⟩
  | 21 => ⟨S4x8192x768, .f32⟩
  | 22 => ⟨S1x8x32, .f32⟩
  | 23 => ⟨S8x32, .f32⟩
  | 24 => ⟨S4x8192x32, .f32⟩
  | 25 => ⟨S1x32, .f32⟩
  | 26 => ⟨S32, .f32⟩
  | 27 => ⟨S1x1x32, .f32⟩
  | 28 => ⟨S4x8192x32, .f32⟩
  | 29 => ⟨S4x8192x32, .f32⟩
  | 30 => ⟨S_, .f32⟩
  | 31 => ⟨S4x8192x32, .f32⟩
  | 32 => ⟨S4x8192x32, .f32⟩
  | 33 => ⟨S4x8192x32, .f32⟩
  | 34 => ⟨S_, .f32⟩
  | 35 => ⟨S4x8192x32, .f32⟩
  | 36 => ⟨S4x8192x32, .f32⟩
  | 37 => ⟨S4x8192x32, .f32⟩
  | 38 => ⟨S4x8192x32, .f32⟩
  | 39 => ⟨S1x32x768, .f32⟩
  | 40 => ⟨S32x768, .f32⟩
  | 41 => ⟨S4x8192x768, .f32⟩
  | 42 => ⟨S1x768, .f32⟩
  | 43 => ⟨S768, .f32⟩
  | 44 => ⟨S1x1x768, .f32⟩
  | 45 => ⟨S4x8192x768, .f32⟩
  | 46 => ⟨S4x8192x768, .f32⟩
  | 47 => ⟨S1x8x32, .f32⟩
  | 48 => ⟨S8x32, .f32⟩
  | 49 => ⟨S4x8192x32, .f32⟩
  | 50 => ⟨S1x32, .f32⟩
  | 51 => ⟨S32, .f32⟩
  | 52 => ⟨S1x1x32, .f32⟩
  | 53 => ⟨S4x8192x32, .f32⟩
  | 54 => ⟨S4x8192x32, .f32⟩
  | 55 => ⟨S_, .f32⟩
  | 56 => ⟨S4x8192x32, .f32⟩
  | 57 => ⟨S4x8192x32, .f32⟩
  | 58 => ⟨S4x8192x32, .f32⟩
  | 59 => ⟨S_, .f32⟩
  | 60 => ⟨S4x8192x32, .f32⟩
  | 61 => ⟨S4x8192x32, .f32⟩
  | 62 => ⟨S4x8192x32, .f32⟩
  | 63 => ⟨S4x8192x32, .f32⟩
  | 64 => ⟨S1x32x768, .f32⟩
  | 65 => ⟨S32x768, .f32⟩
  | 66 => ⟨S4x8192x768, .f32⟩
  | 67 => ⟨S1x768, .f32⟩
  | 68 => ⟨S768, .f32⟩
  | 69 => ⟨S1x1x768, .f32⟩
  | 70 => ⟨S4x8192x768, .f32⟩
  | 71 => ⟨S4x8192x768, .f32⟩
  | 72 => ⟨S1x8x32, .f32⟩
  | 73 => ⟨S8x32, .f32⟩
  | 74 => ⟨S4x8192x32, .f32⟩
  | 75 => ⟨S1x32, .f32⟩
  | 76 => ⟨S32, .f32⟩
  | 77 => ⟨S1x1x32, .f32⟩
  | 78 => ⟨S4x8192x32, .f32⟩
  | 79 => ⟨S4x8192x32, .f32⟩
  | 80 => ⟨S_, .f32⟩
  | 81 => ⟨S4x8192x32, .f32⟩
  | 82 => ⟨S4x8192x32, .f32⟩
  | 83 => ⟨S4x8192x32, .f32⟩
  | 84 => ⟨S_, .f32⟩
  | 85 => ⟨S4x8192x32, .f32⟩
  | 86 => ⟨S4x8192x32, .f32⟩
  | 87 => ⟨S4x8192x32, .f32⟩
  | 88 => ⟨S4x8192x32, .f32⟩
  | 89 => ⟨S1x32x768, .f32⟩
  | 90 => ⟨S32x768, .f32⟩
  | 91 => ⟨S4x8192x768, .f32⟩
  | 92 => ⟨S1x768, .f32⟩
  | 93 => ⟨S768, .f32⟩
  | 94 => ⟨S1x1x768, .f32⟩
  | 95 => ⟨S4x8192x768, .f32⟩
  | 96 => ⟨S4x8192x768, .f32⟩
  | _ => ⟨S4x8192x768, .f32⟩

abbrev hbmTy (i : Nat) : BufTy := match i / 128 with
  | 0 => hbmTy0_0 i
  | 1 => hbmTy0_1 i
  | _ => ⟨S4x8192x768, .f32⟩

abbrev bufTy : (tb : Table) → Fin (tcTables nBuf tb) → BufTy
  | .hbm, ⟨i, _⟩ => hbmTy i
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_8 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_10 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_11 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_cst_12 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_13 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_cst_14 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_cst_15 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_cst_16 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_cst_17 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩

abbrev nD : Nat := 1
abbrev τ : Topo := Topo.v7x

variable {F : FTy → Type} [FloatOps F]
-- ==== Proof.Names.lean ====
/- The kernel's pieces under fixed names: part `k` of a slot of the two row buffers, part `k` of block `n` of the token
   array and of the result array, and the cells of the transfers between them; and the closed form of every offset the
   body computes, with which the body's own slices are these pieces. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal

open Cert.KernelIdeal.Gen
open Idealize.ShloMosaic Idealize.ShloMosaic.TcCoe Idealize.ShloMosaic.Tactic

/-- The two row buffers and the two arrays the kernel moves rows between, whole. -/
abbrev xM : Memref sig .tc .hbm S32768x768 .f32 := Memref.whole main_v0
abbrev oM : Memref sig .tc .hbm S32768x768 .f32 := Memref.whole main_v12
abbrev xbM : Memref sig .tc .vmem S2x4096x768 .f32 := Memref.whole cc0_scratch0
abbrev obM : Memref sig .tc .vmem S2x4096x768 .f32 := Memref.whole cc0_scratch1

/-- Where part `k` of slot `s`, part `k` of block `n`, and cell `(s, k)` start. -/
abbrev slotOff (s : Fin 2) (k : Fin 4) : Fin 3 → Nat := ![s.val, 1024 * k.val, 0]
abbrev blkOff (n : Fin 8) (k : Fin 4) : Fin 2 → Nat := ![4096 * n.val + 1024 * k.val, 0]
abbrev semOff (s : Fin 2) (k : Fin 4) : Fin 2 → Nat := ![s.val, k.val]

theorem slotOff_inb (s : Fin 2) (k : Fin 4) : ∀ a, slotOff s k a + S1x1024x768.size a ≤ S2x4096x768.size a := by
  have hs := s.isLt; have hk := k.isLt; intro a; fin_cases a
  · show s.val + 1 ≤ 2; omega
  · show 1024 * k.val + 1024 ≤ 4096; omega
  · show 0 + 768 ≤ 768; omega
theorem blkOff_inb (n : Fin 8) (k : Fin 4) : ∀ a, blkOff n k a + S1024x768.size a ≤ S32768x768.size a := by
  have hn := n.isLt; have hk := k.isLt; intro a; fin_cases a
  · show 4096 * n.val + 1024 * k.val + 1024 ≤ 32768; omega
  · show 0 + 768 ≤ 768; omega
theorem semOff_inb (s : Fin 2) (k : Fin 4) : ∀ a, semOff s k a + S1x1.size a ≤ S2x4.size a := by
  have hs := s.isLt; have hk := k.isLt; intro a; fin_cases a
  · show s.val + 1 ≤ 2; omega
  · show k.val + 1 ≤ 4; omega

/-- Part `k` of slot `s` of the row buffer the tokens land in. -/
def xpart (s : Fin 2) (k : Fin 4) : Memref sig .tc .vmem S1024x768 .f32 :=
  (xbM.slice (Rect.unit (s := S2x4096x768) (slotOff s k) S1x1024x768.size (slotOff_inb s k)) (fun _ => rfl)).squeeze S1024x768 squeezes_S1x1024x768_S1024x768
/-- Part `k` of slot `s` of the row buffer the results leave from. -/
def opart (s : Fin 2) (k : Fin 4) : Memref sig .tc .vmem S1024x768 .f32 :=
  (obM.slice (Rect.unit (s := S2x4096x768) (slotOff s k) S1x1024x768.size (slotOff_inb s k)) (fun _ => rfl)).squeeze S1024x768 squeezes_S1x1024x768_S1024x768
/-- Part `k` of block `n` of the tokens. -/
def xblk (n : Fin 8) (k : Fin 4) : Memref sig .tc .hbm S1024x768 .f32 :=
  xM.slice (Rect.unit (s := S32768x768) (blkOff n k) S1024x768.size (blkOff_inb n k)) (fun _ => rfl)
/-- Part `k` of block `n` of the result. -/
def oblk (n : Fin 8) (k : Fin 4) : Memref sig .tc .hbm S1024x768 .f32 :=
  oM.slice (Rect.unit (s := S32768x768) (blkOff n k) S1024x768.size (blkOff_inb n k)) (fun _ => rfl)
/-- The cell of part `k` of slot `s`: of the rows coming in, and of the rows going out. -/
def isem (s : Fin 2) (k : Fin 4) : DmaSems sig S_ :=
  (cc0_scratch2.slice (Rect.unit (s := S2x4) (semOff s k) S1x1.size (semOff_inb s k))).squeeze S_ squeezes_S1x1_S_
def osem (s : Fin 2) (k : Fin 4) : DmaSems sig S_ :=
  (cc0_scratch3.slice (Rect.unit (s := S2x4) (semOff s k) S1x1.size (semOff_inb s k))).squeeze S_ squeezes_S1x1_S_

instance (s : Fin 2) (k : Fin 4) : ClosedOff (slotOff s k) := ⟨slotOff s k, rfl⟩
instance (n : Fin 8) (k : Fin 4) : ClosedOff (blkOff n k) := ⟨blkOff n k, rfl⟩

/-! ## A slice at an offset equal to a piece's is the piece -/

theorem xpart_of {off : Fin 3 → Nat} {s : Fin 2} {k : Fin 4} (e : off = slotOff s k) (hh hs) :
    (xbM.slice (Rect.unit (s := S2x4096x768) off S1x1024x768.size hh) hs).squeeze S1024x768 squeezes_S1x1024x768_S1024x768 = xpart s k :=
  congrArg (fun M : Memref sig .tc .vmem S1x1024x768 .f32 => M.squeeze S1024x768 squeezes_S1x1024x768_S1024x768) (Memref.slice_unit_congr _ e _ _ _ _)
theorem opart_of {off : Fin 3 → Nat} {s : Fin 2} {k : Fin 4} (e : off = slotOff s k) (hh hs) :
    (obM.slice (Rect.unit (s := S2x4096x768) off S1x1024x768.size hh) hs).squeeze S1024x768 squeezes_S1x1024x768_S1024x768 = opart s k :=
  congrArg (fun M : Memref sig .tc .vmem S1x1024x768 .f32 => M.squeeze S1024x768 squeezes_S1x1024x768_S1024x768) (Memref.slice_unit_congr _ e _ _ _ _)
theorem xblk_of {off : Fin 2 → Nat} {n : Fin 8} {k : Fin 4} (e : off = blkOff n k) (hh hs) :
    xM.slice (Rect.unit (s := S32768x768) off S1024x768.size hh) hs = xblk n k := Memref.slice_unit_congr _ e _ _ hs (fun _ => rfl)
theorem oblk_of {off : Fin 2 → Nat} {n : Fin 8} {k : Fin 4} (e : off = blkOff n k) (hh hs) :
    oM.slice (Rect.unit (s := S32768x768) off S1024x768.size hh) hs = oblk n k := Memref.slice_unit_congr _ e _ _ hs (fun _ => rfl)
theorem isem_of {off : Fin 2 → Nat} {s : Fin 2} {k : Fin 4} (e : off = semOff s k) (hh) :
    (cc0_scratch2.slice (Rect.unit (s := S2x4) off S1x1.size hh)).squeeze S_ squeezes_S1x1_S_ = isem s k :=
  congrArg (fun A : DmaSems sig S1x1 => A.squeeze S_ squeezes_S1x1_S_) (SemArray.slice_unit_congr _ e _ _)
theorem osem_of {off : Fin 2 → Nat} {s : Fin 2} {k : Fin 4} (e : off = semOff s k) (hh) :
    (cc0_scratch3.slice (Rect.unit (s := S2x4) off S1x1.size hh)).squeeze S_ squeezes_S1x1_S_ = osem s k :=
  congrArg (fun A : DmaSems sig S1x1 => A.squeeze S_ squeezes_S1x1_S_) (SemArray.slice_unit_congr _ e _ _)

/-! ## The offsets in closed form, at every step -/

theorem off1_eq : ∀ i : grid0.Coords, 2 ≤ (i 0).val → k0_off1 i = semOff (Ring.sl 2 (i 0).val) 0 := by decide +kernel
theorem off4_eq : ∀ i : grid0.Coords, 2 ≤ (i 0).val → k0_off4 i = semOff (Ring.sl 2 (i 0).val) 1 := by decide +kernel
theorem off6_eq : ∀ i : grid0.Coords, 2 ≤ (i 0).val → k0_off6 i = semOff (Ring.sl 2 (i 0).val) 2 := by decide +kernel
theorem off8_eq : ∀ i : grid0.Coords, 2 ≤ (i 0).val → k0_off8 i = semOff (Ring.sl 2 (i 0).val) 3 := by decide +kernel
theorem off3_eq : ∀ i : grid0.Coords, 2 ≤ (i 0).val → k0_off3 i = slotOff (Ring.sl 2 (i 0).val) 0 := by decide +kernel
theorem off5_eq : ∀ i : grid0.Coords, 2 ≤ (i 0).val → k0_off5 i = slotOff (Ring.sl 2 (i 0).val) 1 := by decide +kernel
theorem off7_eq : ∀ i : grid0.Coords, 2 ≤ (i 0).val → k0_off7 i = slotOff (Ring.sl 2 (i 0).val) 2 := by decide +kernel
theorem off9_eq : ∀ i : grid0.Coords, 2 ≤ (i 0).val → k0_off9 i = slotOff (Ring.sl 2 (i 0).val) 3 := by decide +kernel
theorem off2_eq_0 : ∀ i : grid0.Coords, 2 ≤ (i 0).val → k0_off2 i 0#32 = blkOff (Ring.bk 8 ((i 0).val - 2)) 0 := by decide +kernel
theorem off2_eq_1024 : ∀ i : grid0.Coords, 2 ≤ (i 0).val → k0_off2 i 1024#32 = blkOff (Ring.bk 8 ((i 0).val - 2)) 1 := by decide +kernel
theorem off2_eq_2048 : ∀ i : grid0.Coords, 2 ≤ (i 0).val → k0_off2 i 2048#32 = blkOff (Ring.bk 8 ((i 0).val - 2)) 2 := by decide +kernel
theorem off2_eq_3072 : ∀ i : grid0.Coords, 2 ≤ (i 0).val → k0_off2 i 3072#32 = blkOff (Ring.bk 8 ((i 0).val - 2)) 3 := by decide +kernel
theorem off10_eq : ∀ i : grid0.Coords, k0_off10 i = semOff (Ring.sl 2 (i 0).val) 0 := by decide +kernel
theorem off13_eq : ∀ i : grid0.Coords, k0_off13 i = semOff (Ring.sl 2 (i 0).val) 1 := by decide +kernel
theorem off15_eq : ∀ i : grid0.Coords, k0_off15 i = semOff (Ring.sl 2 (i 0).val) 2 := by decide +kernel
theorem off17_eq : ∀ i : grid0.Coords, k0_off17 i = semOff (Ring.sl 2 (i 0).val) 3 := by decide +kernel
theorem off11_eq : ∀ i : grid0.Coords, k0_off11 i = slotOff (Ring.sl 2 (i 0).val) 0 := by decide +kernel
theorem off14_eq : ∀ i : grid0.Coords, k0_off14 i = slotOff (Ring.sl 2 (i 0).val) 1 := by decide +kernel
theorem off16_eq : ∀ i : grid0.Coords, k0_off16 i = slotOff (Ring.sl 2 (i 0).val) 2 := by decide +kernel
theorem off18_eq : ∀ i : grid0.Coords, k0_off18 i = slotOff (Ring.sl 2 (i 0).val) 3 := by decide +kernel
theorem off12_eq_0 : ∀ i : grid0.Coords, k0_off12 i 0#32 = blkOff (Ring.bk 8 (i 0).val) 0 := by decide +kernel
theorem off12_eq_1024 : ∀ i : grid0.Coords, k0_off12 i 1024#32 = blkOff (Ring.bk 8 (i 0).val) 1 := by decide +kernel
theorem off12_eq_2048 : ∀ i : grid0.Coords, k0_off12 i 2048#32 = blkOff (Ring.bk 8 (i 0).val) 2 := by decide +kernel
theorem off12_eq_3072 : ∀ i : grid0.Coords, k0_off12 i 3072#32 = blkOff (Ring.bk 8 (i 0).val) 3 := by decide +kernel
theorem off19_eq : ∀ i : grid0.Coords, k0_off19 i = slotOff (Ring.sl 2 (i 0).val) 0 := by decide +kernel
theorem off23_eq : ∀ i : grid0.Coords, k0_off23 i = slotOff (Ring.sl 2 (i 0).val) 1 := by decide +kernel
theorem off27_eq : ∀ i : grid0.Coords, k0_off27 i = slotOff (Ring.sl 2 (i 0).val) 2 := by decide +kernel
theorem off31_eq : ∀ i : grid0.Coords, k0_off31 i = slotOff (Ring.sl 2 (i 0).val) 3 := by decide +kernel
theorem off20_eq : ∀ i : grid0.Coords, (i 0).val + 2 < 8 → k0_off20 i = semOff (Ring.sl 2 (i 0).val) 0 := by decide +kernel
theorem off24_eq : ∀ i : grid0.Coords, (i 0).val + 2 < 8 → k0_off24 i = semOff (Ring.sl 2 (i 0).val) 1 := by decide +kernel
theorem off28_eq : ∀ i : grid0.Coords, (i 0).val + 2 < 8 → k0_off28 i = semOff (Ring.sl 2 (i 0).val) 2 := by decide +kernel
theorem off32_eq : ∀ i : grid0.Coords, (i 0).val + 2 < 8 → k0_off32 i = semOff (Ring.sl 2 (i 0).val) 3 := by decide +kernel
theorem off21_eq : ∀ i : grid0.Coords, (i 0).val + 2 < 8 → k0_off21 i = slotOff (Ring.sl 2 (i 0).val) 0 := by decide +kernel
theorem off25_eq : ∀ i : grid0.Coords, (i 0).val + 2 < 8 → k0_off25 i = slotOff (Ring.sl 2 (i 0).val) 1 := by decide +kernel
theorem off29_eq : ∀ i : grid0.Coords, (i 0).val + 2 < 8 → k0_off29 i = slotOff (Ring.sl 2 (i 0).val) 2 := by decide +kernel
theorem off33_eq : ∀ i : grid0.Coords, (i 0).val + 2 < 8 → k0_off33 i = slotOff (Ring.sl 2 (i 0).val) 3 := by decide +kernel
theorem off22_eq : ∀ i : grid0.Coords, (i 0).val + 2 < 8 → k0_off22 i = blkOff (Ring.bk 8 ((i 0).val + 2)) 0 := by decide +kernel
theorem off26_eq : ∀ i : grid0.Coords, (i 0).val + 2 < 8 → k0_off26 i = blkOff (Ring.bk 8 ((i 0).val + 2)) 1 := by decide +kernel
theorem off30_eq : ∀ i : grid0.Coords, (i 0).val + 2 < 8 → k0_off30 i = blkOff (Ring.bk 8 ((i 0).val + 2)) 2 := by decide +kernel
theorem off34_eq : ∀ i : grid0.Coords, (i 0).val + 2 < 8 → k0_off34 i = blkOff (Ring.bk 8 ((i 0).val + 2)) 3 := by decide +kernel
theorem off35_eq_0 : ∀ i : grid0.Coords, (i 0).val = 7 → k0_off35 i 0#32 = semOff (Ring.sl 2 ((i 0).val + 1)) 0 := by decide +kernel
theorem off38_eq_0 : ∀ i : grid0.Coords, (i 0).val = 7 → k0_off38 i 0#32 = semOff (Ring.sl 2 ((i 0).val + 1)) 1 := by decide +kernel
theorem off40_eq_0 : ∀ i : grid0.Coords, (i 0).val = 7 → k0_off40 i 0#32 = semOff (Ring.sl 2 ((i 0).val + 1)) 2 := by decide +kernel
theorem off42_eq_0 : ∀ i : grid0.Coords, (i 0).val = 7 → k0_off42 i 0#32 = semOff (Ring.sl 2 ((i 0).val + 1)) 3 := by decide +kernel
theorem off37_eq_0 : ∀ i : grid0.Coords, (i 0).val = 7 → k0_off37 i 0#32 = slotOff (Ring.sl 2 ((i 0).val + 1)) 0 := by decide +kernel
theorem off39_eq_0 : ∀ i : grid0.Coords, (i 0).val = 7 → k0_off39 i 0#32 = slotOff (Ring.sl 2 ((i 0).val + 1)) 1 := by decide +kernel
theorem off41_eq_0 : ∀ i : grid0.Coords, (i 0).val = 7 → k0_off41 i 0#32 = slotOff (Ring.sl 2 ((i 0).val + 1)) 2 := by decide +kernel
theorem off43_eq_0 : ∀ i : grid0.Coords, (i 0).val = 7 → k0_off43 i 0#32 = slotOff (Ring.sl 2 ((i 0).val + 1)) 3 := by decide +kernel
theorem off36_eq_0_0 : ∀ i : grid0.Coords, (i 0).val = 7 → k0_off36 i 0#32 0#32 = blkOff (Ring.bk 8 ((i 0).val - 1)) 0 := by decide +kernel
theorem off36_eq_0_1024 : ∀ i : grid0.Coords, (i 0).val = 7 → k0_off36 i 0#32 1024#32 = blkOff (Ring.bk 8 ((i 0).val - 1)) 1 := by decide +kernel
theorem off36_eq_0_2048 : ∀ i : grid0.Coords, (i 0).val = 7 → k0_off36 i 0#32 2048#32 = blkOff (Ring.bk 8 ((i 0).val - 1)) 2 := by decide +kernel
theorem off36_eq_0_3072 : ∀ i : grid0.Coords, (i 0).val = 7 → k0_off36 i 0#32 3072#32 = blkOff (Ring.bk 8 ((i 0).val - 1)) 3 := by decide +kernel
theorem off35_eq_1 : ∀ i : grid0.Coords, (i 0).val = 7 → k0_off35 i 1#32 = semOff (Ring.sl 2 (i 0).val) 0 := by decide +kernel
theorem off38_eq_1 : ∀ i : grid0.Coords, (i 0).val = 7 → k0_off38 i 1#32 = semOff (Ring.sl 2 (i 0).val) 1 := by decide +kernel
theorem off40_eq_1 : ∀ i : grid0.Coords, (i 0).val = 7 → k0_off40 i 1#32 = semOff (Ring.sl 2 (i 0).val) 2 := by decide +kernel
theorem off42_eq_1 : ∀ i : grid0.Coords, (i 0).val = 7 → k0_off42 i 1#32 = semOff (Ring.sl 2 (i 0).val) 3 := by decide +kernel
theorem off37_eq_1 : ∀ i : grid0.Coords, (i 0).val = 7 → k0_off37 i 1#32 = slotOff (Ring.sl 2 (i 0).val) 0 := by decide +kernel
theorem off39_eq_1 : ∀ i : grid0.Coords, (i 0).val = 7 → k0_off39 i 1#32 = slotOff (Ring.sl 2 (i 0).val) 1 := by decide +kernel
theorem off41_eq_1 : ∀ i : grid0.Coords, (i 0).val = 7 → k0_off41 i 1#32 = slotOff (Ring.sl 2 (i 0).val) 2 := by decide +kernel
theorem off43_eq_1 : ∀ i : grid0.Coords, (i 0).val = 7 → k0_off43 i 1#32 = slotOff (Ring.sl 2 (i 0).val) 3 := by decide +kernel
theorem off36_eq_1_0 : ∀ i : grid0.Coords, (i 0).val = 7 → k0_off36 i 1#32 0#32 = blkOff (Ring.bk 8 (i 0).val) 0 := by decide +kernel
theorem off36_eq_1_1024 : ∀ i : grid0.Coords, (i 0).val = 7 → k0_off36 i 1#32 1024#32 = blkOff (Ring.bk 8 (i 0).val) 1 := by decide +kernel
theorem off36_eq_1_2048 : ∀ i : grid0.Coords, (i 0).val = 7 → k0_off36 i 1#32 2048#32 = blkOff (Ring.bk 8 (i 0).val) 2 := by decide +kernel
theorem off36_eq_1_3072 : ∀ i : grid0.Coords, (i 0).val = 7 → k0_off36 i 1#32 3072#32 = blkOff (Ring.bk 8 (i 0).val) 3 := by decide +kernel

/-! ## The body's conditions -/

theorem cond2_iff : ∀ i : grid0.Coords, k0_cond2 i = 1#1 ↔ 2 ≤ (i 0).val := by decide +kernel
theorem cond3_iff : ∀ i : grid0.Coords, k0_cond3 i = 1#1 ↔ (i 0).val + 2 < 8 := by decide +kernel
theorem cond4_iff : ∀ i : grid0.Coords, k0_cond4 i = 1#1 ↔ (i 0).val + 2 < 8 := by decide +kernel
theorem cond5_iff : ∀ i : grid0.Coords, k0_cond5 i = 1#1 ↔ (i 0).val + 2 < 8 := by decide +kernel
theorem cond6_iff : ∀ i : grid0.Coords, k0_cond6 i = 1#1 ↔ (i 0).val + 2 < 8 := by decide +kernel
theorem cond7_iff : ∀ i : grid0.Coords, k0_cond7 i = 1#1 ↔ (i 0).val = 7 := by decide +kernel
theorem cond1_iff : ∀ i : grid0.Coords, Scalar.cmpi .ne (Scalar.extui (Scalar.cmpi .eq (BitVec.ofNat 32 (i 0).val) 0#32) : BitVec 32) 0#32 = 1#1 ↔ (i 0).val = 0 := by decide +kernel

/-! ## The body's slices are the pieces -/

@[sl_canon] theorem osem_1 (i : grid0.Coords) (h : 2 ≤ (i 0).val) (hh) :
    (cc0_scratch3.slice (Rect.unit (s := S2x4) (k0_off1 i) S1x1.size hh)).squeeze S_ squeezes_S1x1_S_ = osem (Ring.sl 2 (i 0).val) 0 := osem_of (off1_eq i h) _
@[sl_canon] theorem osem_4 (i : grid0.Coords) (h : 2 ≤ (i 0).val) (hh) :
    (cc0_scratch3.slice (Rect.unit (s := S2x4) (k0_off4 i) S1x1.size hh)).squeeze S_ squeezes_S1x1_S_ = osem (Ring.sl 2 (i 0).val) 1 := osem_of (off4_eq i h) _
@[sl_canon] theorem osem_6 (i : grid0.Coords) (h : 2 ≤ (i 0).val) (hh) :
    (cc0_scratch3.slice (Rect.unit (s := S2x4) (k0_off6 i) S1x1.size hh)).squeeze S_ squeezes_S1x1_S_ = osem (Ring.sl 2 (i 0).val) 2 := osem_of (off6_eq i h) _
@[sl_canon] theorem osem_8 (i : grid0.Coords) (h : 2 ≤ (i 0).val) (hh) :
    (cc0_scratch3.slice (Rect.unit (s := S2x4) (k0_off8 i) S1x1.size hh)).squeeze S_ squeezes_S1x1_S_ = osem (Ring.sl 2 (i 0).val) 3 := osem_of (off8_eq i h) _
@[sl_canon] theorem opart_3 (i : grid0.Coords) (h : 2 ≤ (i 0).val) (hh hs) :
    (obM.slice (Rect.unit (s := S2x4096x768) (k0_off3 i) S1x1024x768.size hh) hs).squeeze S1024x768 squeezes_S1x1024x768_S1024x768 = opart (Ring.sl 2 (i 0).val) 0 := opart_of (off3_eq i h) _ _
@[sl_canon] theorem opart_5 (i : grid0.Coords) (h : 2 ≤ (i 0).val) (hh hs) :
    (obM.slice (Rect.unit (s := S2x4096x768) (k0_off5 i) S1x1024x768.size hh) hs).squeeze S1024x768 squeezes_S1x1024x768_S1024x768 = opart (Ring.sl 2 (i 0).val) 1 := opart_of (off5_eq i h) _ _
@[sl_canon] theorem opart_7 (i : grid0.Coords) (h : 2 ≤ (i 0).val) (hh hs) :
    (obM.slice (Rect.unit (s := S2x4096x768) (k0_off7 i) S1x1024x768.size hh) hs).squeeze S1024x768 squeezes_S1x1024x768_S1024x768 = opart (Ring.sl 2 (i 0).val) 2 := opart_of (off7_eq i h) _ _
@[sl_canon] theorem opart_9 (i : grid0.Coords) (h : 2 ≤ (i 0).val) (hh hs) :
    (obM.slice (Rect.unit (s := S2x4096x768) (k0_off9 i) S1x1024x768.size hh) hs).squeeze S1024x768 squeezes_S1x1024x768_S1024x768 = opart (Ring.sl 2 (i 0).val) 3 := opart_of (off9_eq i h) _ _
@[sl_canon] theorem oblk_2_0 (i : grid0.Coords) (h : 2 ≤ (i 0).val) (hh hs) :
    oM.slice (Rect.unit (s := S32768x768) (k0_off2 i 0#32) S1024x768.size hh) hs = oblk (Ring.bk 8 ((i 0).val - 2)) 0 := oblk_of (off2_eq_0 i h) _ _
@[sl_canon] theorem oblk_2_1024 (i : grid0.Coords) (h : 2 ≤ (i 0).val) (hh hs) :
    oM.slice (Rect.unit (s := S32768x768) (k0_off2 i 1024#32) S1024x768.size hh) hs = oblk (Ring.bk 8 ((i 0).val - 2)) 1 := oblk_of (off2_eq_1024 i h) _ _
@[sl_canon] theorem oblk_2_2048 (i : grid0.Coords) (h : 2 ≤ (i 0).val) (hh hs) :
    oM.slice (Rect.unit (s := S32768x768) (k0_off2 i 2048#32) S1024x768.size hh) hs = oblk (Ring.bk 8 ((i 0).val - 2)) 2 := oblk_of (off2_eq_2048 i h) _ _
@[sl_canon] theorem oblk_2_3072 (i : grid0.Coords) (h : 2 ≤ (i 0).val) (hh hs) :
    oM.slice (Rect.unit (s := S32768x768) (k0_off2 i 3072#32) S1024x768.size hh) hs = oblk (Ring.bk 8 ((i 0).val - 2)) 3 := oblk_of (off2_eq_3072 i h) _ _
@[sl_canon] theorem isem_10 (i : grid0.Coords) (hh) :
    (cc0_scratch2.slice (Rect.unit (s := S2x4) (k0_off10 i) S1x1.size hh)).squeeze S_ squeezes_S1x1_S_ = isem (Ring.sl 2 (i 0).val) 0 := isem_of (off10_eq i) _
@[sl_canon] theorem osem_10 (i : grid0.Coords) (hh) :
    (cc0_scratch3.slice (Rect.unit (s := S2x4) (k0_off10 i) S1x1.size hh)).squeeze S_ squeezes_S1x1_S_ = osem (Ring.sl 2 (i 0).val) 0 := osem_of (off10_eq i) _
@[sl_canon] theorem isem_13 (i : grid0.Coords) (hh) :
    (cc0_scratch2.slice (Rect.unit (s := S2x4) (k0_off13 i) S1x1.size hh)).squeeze S_ squeezes_S1x1_S_ = isem (Ring.sl 2 (i 0).val) 1 := isem_of (off13_eq i) _
@[sl_canon] theorem osem_13 (i : grid0.Coords) (hh) :
    (cc0_scratch3.slice (Rect.unit (s := S2x4) (k0_off13 i) S1x1.size hh)).squeeze S_ squeezes_S1x1_S_ = osem (Ring.sl 2 (i 0).val) 1 := osem_of (off13_eq i) _
@[sl_canon] theorem isem_15 (i : grid0.Coords) (hh) :
    (cc0_scratch2.slice (Rect.unit (s := S2x4) (k0_off15 i) S1x1.size hh)).squeeze S_ squeezes_S1x1_S_ = isem (Ring.sl 2 (i 0).val) 2 := isem_of (off15_eq i) _
@[sl_canon] theorem osem_15 (i : grid0.Coords) (hh) :
    (cc0_scratch3.slice (Rect.unit (s := S2x4) (k0_off15 i) S1x1.size hh)).squeeze S_ squeezes_S1x1_S_ = osem (Ring.sl 2 (i 0).val) 2 := osem_of (off15_eq i) _
@[sl_canon] theorem isem_17 (i : grid0.Coords) (hh) :
    (cc0_scratch2.slice (Rect.unit (s := S2x4) (k0_off17 i) S1x1.size hh)).squeeze S_ squeezes_S1x1_S_ = isem (Ring.sl 2 (i 0).val) 3 := isem_of (off17_eq i) _
@[sl_canon] theorem osem_17 (i : grid0.Coords) (hh) :
    (cc0_scratch3.slice (Rect.unit (s := S2x4) (k0_off17 i) S1x1.size hh)).squeeze S_ squeezes_S1x1_S_ = osem (Ring.sl 2 (i 0).val) 3 := osem_of (off17_eq i) _
@[sl_canon] theorem xpart_11 (i : grid0.Coords) (hh hs) :
    (xbM.slice (Rect.unit (s := S2x4096x768) (k0_off11 i) S1x1024x768.size hh) hs).squeeze S1024x768 squeezes_S1x1024x768_S1024x768 = xpart (Ring.sl 2 (i 0).val) 0 := xpart_of (off11_eq i) _ _
@[sl_canon] theorem opart_11 (i : grid0.Coords) (hh hs) :
    (obM.slice (Rect.unit (s := S2x4096x768) (k0_off11 i) S1x1024x768.size hh) hs).squeeze S1024x768 squeezes_S1x1024x768_S1024x768 = opart (Ring.sl 2 (i 0).val) 0 := opart_of (off11_eq i) _ _
@[sl_canon] theorem xpart_14 (i : grid0.Coords) (hh hs) :
    (xbM.slice (Rect.unit (s := S2x4096x768) (k0_off14 i) S1x1024x768.size hh) hs).squeeze S1024x768 squeezes_S1x1024x768_S1024x768 = xpart (Ring.sl 2 (i 0).val) 1 := xpart_of (off14_eq i) _ _
@[sl_canon] theorem opart_14 (i : grid0.Coords) (hh hs) :
    (obM.slice (Rect.unit (s := S2x4096x768) (k0_off14 i) S1x1024x768.size hh) hs).squeeze S1024x768 squeezes_S1x1024x768_S1024x768 = opart (Ring.sl 2 (i 0).val) 1 := opart_of (off14_eq i) _ _
@[sl_canon] theorem xpart_16 (i : grid0.Coords) (hh hs) :
    (xbM.slice (Rect.unit (s := S2x4096x768) (k0_off16 i) S1x1024x768.size hh) hs).squeeze S1024x768 squeezes_S1x1024x768_S1024x768 = xpart (Ring.sl 2 (i 0).val) 2 := xpart_of (off16_eq i) _ _
@[sl_canon] theorem opart_16 (i : grid0.Coords) (hh hs) :
    (obM.slice (Rect.unit (s := S2x4096x768) (k0_off16 i) S1x1024x768.size hh) hs).squeeze S1024x768 squeezes_S1x1024x768_S1024x768 = opart (Ring.sl 2 (i 0).val) 2 := opart_of (off16_eq i) _ _
@[sl_canon] theorem xpart_18 (i : grid0.Coords) (hh hs) :
    (xbM.slice (Rect.unit (s := S2x4096x768) (k0_off18 i) S1x1024x768.size hh) hs).squeeze S1024x768 squeezes_S1x1024x768_S1024x768 = xpart (Ring.sl 2 (i 0).val) 3 := xpart_of (off18_eq i) _ _
@[sl_canon] theorem opart_18 (i : grid0.Coords) (hh hs) :
    (obM.slice (Rect.unit (s := S2x4096x768) (k0_off18 i) S1x1024x768.size hh) hs).squeeze S1024x768 squeezes_S1x1024x768_S1024x768 = opart (Ring.sl 2 (i 0).val) 3 := opart_of (off18_eq i) _ _
@[sl_canon] theorem xblk_12_0 (i : grid0.Coords) (hh hs) :
    xM.slice (Rect.unit (s := S32768x768) (k0_off12 i 0#32) S1024x768.size hh) hs = xblk (Ring.bk 8 (i 0).val) 0 := xblk_of (off12_eq_0 i) _ _
@[sl_canon] theorem oblk_12_0 (i : grid0.Coords) (hh hs) :
    oM.slice (Rect.unit (s := S32768x768) (k0_off12 i 0#32) S1024x768.size hh) hs = oblk (Ring.bk 8 (i 0).val) 0 := oblk_of (off12_eq_0 i) _ _
@[sl_canon] theorem xblk_12_1024 (i : grid0.Coords) (hh hs) :
    xM.slice (Rect.unit (s := S32768x768) (k0_off12 i 1024#32) S1024x768.size hh) hs = xblk (Ring.bk 8 (i 0).val) 1 := xblk_of (off12_eq_1024 i) _ _
@[sl_canon] theorem oblk_12_1024 (i : grid0.Coords) (hh hs) :
    oM.slice (Rect.unit (s := S32768x768) (k0_off12 i 1024#32) S1024x768.size hh) hs = oblk (Ring.bk 8 (i 0).val) 1 := oblk_of (off12_eq_1024 i) _ _
@[sl_canon] theorem xblk_12_2048 (i : grid0.Coords) (hh hs) :
    xM.slice (Rect.unit (s := S32768x768) (k0_off12 i 2048#32) S1024x768.size hh) hs = xblk (Ring.bk 8 (i 0).val) 2 := xblk_of (off12_eq_2048 i) _ _
@[sl_canon] theorem oblk_12_2048 (i : grid0.Coords) (hh hs) :
    oM.slice (Rect.unit (s := S32768x768) (k0_off12 i 2048#32) S1024x768.size hh) hs = oblk (Ring.bk 8 (i 0).val) 2 := oblk_of (off12_eq_2048 i) _ _
@[sl_canon] theorem xblk_12_3072 (i : grid0.Coords) (hh hs) :
    xM.slice (Rect.unit (s := S32768x768) (k0_off12 i 3072#32) S1024x768.size hh) hs = xblk (Ring.bk 8 (i 0).val) 3 := xblk_of (off12_eq_3072 i) _ _
@[sl_canon] theorem oblk_12_3072 (i : grid0.Coords) (hh hs) :
    oM.slice (Rect.unit (s := S32768x768) (k0_off12 i 3072#32) S1024x768.size hh) hs = oblk (Ring.bk 8 (i 0).val) 3 := oblk_of (off12_eq_3072 i) _ _
@[sl_canon] theorem isem_20 (i : grid0.Coords) (h : (i 0).val + 2 < 8) (hh) :
    (cc0_scratch2.slice (Rect.unit (s := S2x4) (k0_off20 i) S1x1.size hh)).squeeze S_ squeezes_S1x1_S_ = isem (Ring.sl 2 (i 0).val) 0 := isem_of (off20_eq i h) _
@[sl_canon] theorem isem_24 (i : grid0.Coords) (h : (i 0).val + 2 < 8) (hh) :
    (cc0_scratch2.slice (Rect.unit (s := S2x4) (k0_off24 i) S1x1.size hh)).squeeze S_ squeezes_S1x1_S_ = isem (Ring.sl 2 (i 0).val) 1 := isem_of (off24_eq i h) _
@[sl_canon] theorem isem_28 (i : grid0.Coords) (h : (i 0).val + 2 < 8) (hh) :
    (cc0_scratch2.slice (Rect.unit (s := S2x4) (k0_off28 i) S1x1.size hh)).squeeze S_ squeezes_S1x1_S_ = isem (Ring.sl 2 (i 0).val) 2 := isem_of (off28_eq i h) _
@[sl_canon] theorem isem_32 (i : grid0.Coords) (h : (i 0).val + 2 < 8) (hh) :
    (cc0_scratch2.slice (Rect.unit (s := S2x4) (k0_off32 i) S1x1.size hh)).squeeze S_ squeezes_S1x1_S_ = isem (Ring.sl 2 (i 0).val) 3 := isem_of (off32_eq i h) _
@[sl_canon] theorem xpart_21 (i : grid0.Coords) (h : (i 0).val + 2 < 8) (hh hs) :
    (xbM.slice (Rect.unit (s := S2x4096x768) (k0_off21 i) S1x1024x768.size hh) hs).squeeze S1024x768 squeezes_S1x1024x768_S1024x768 = xpart (Ring.sl 2 (i 0).val) 0 := xpart_of (off21_eq i h) _ _
@[sl_canon] theorem xpart_25 (i : grid0.Coords) (h : (i 0).val + 2 < 8) (hh hs) :
    (xbM.slice (Rect.unit (s := S2x4096x768) (k0_off25 i) S1x1024x768.size hh) hs).squeeze S1024x768 squeezes_S1x1024x768_S1024x768 = xpart (Ring.sl 2 (i 0).val) 1 := xpart_of (off25_eq i h) _ _
@[sl_canon] theorem xpart_29 (i : grid0.Coords) (h : (i 0).val + 2 < 8) (hh hs) :
    (xbM.slice (Rect.unit (s := S2x4096x768) (k0_off29 i) S1x1024x768.size hh) hs).squeeze S1024x768 squeezes_S1x1024x768_S1024x768 = xpart (Ring.sl 2 (i 0).val) 2 := xpart_of (off29_eq i h) _ _
@[sl_canon] theorem xpart_33 (i : grid0.Coords) (h : (i 0).val + 2 < 8) (hh hs) :
    (xbM.slice (Rect.unit (s := S2x4096x768) (k0_off33 i) S1x1024x768.size hh) hs).squeeze S1024x768 squeezes_S1x1024x768_S1024x768 = xpart (Ring.sl 2 (i 0).val) 3 := xpart_of (off33_eq i h) _ _
@[sl_canon] theorem xblk_22 (i : grid0.Coords) (h : (i 0).val + 2 < 8) (hh hs) :
    xM.slice (Rect.unit (s := S32768x768) (k0_off22 i) S1024x768.size hh) hs = xblk (Ring.bk 8 ((i 0).val + 2)) 0 := xblk_of (off22_eq i h) _ _
@[sl_canon] theorem xblk_26 (i : grid0.Coords) (h : (i 0).val + 2 < 8) (hh hs) :
    xM.slice (Rect.unit (s := S32768x768) (k0_off26 i) S1024x768.size hh) hs = xblk (Ring.bk 8 ((i 0).val + 2)) 1 := xblk_of (off26_eq i h) _ _
@[sl_canon] theorem xblk_30 (i : grid0.Coords) (h : (i 0).val + 2 < 8) (hh hs) :
    xM.slice (Rect.unit (s := S32768x768) (k0_off30 i) S1024x768.size hh) hs = xblk (Ring.bk 8 ((i 0).val + 2)) 2 := xblk_of (off30_eq i h) _ _
@[sl_canon] theorem xblk_34 (i : grid0.Coords) (h : (i 0).val + 2 < 8) (hh hs) :
    xM.slice (Rect.unit (s := S32768x768) (k0_off34 i) S1024x768.size hh) hs = xblk (Ring.bk 8 ((i 0).val + 2)) 3 := xblk_of (off34_eq i h) _ _
@[sl_canon] theorem osem_35_0 (i : grid0.Coords) (h : (i 0).val = 7) (hh) :
    (cc0_scratch3.slice (Rect.unit (s := S2x4) (k0_off35 i 0#32) S1x1.size hh)).squeeze S_ squeezes_S1x1_S_ = osem (Ring.sl 2 ((i 0).val + 1)) 0 := osem_of (off35_eq_0 i h) _
@[sl_canon] theorem osem_38_0 (i : grid0.Coords) (h : (i 0).val = 7) (hh) :
    (cc0_scratch3.slice (Rect.unit (s := S2x4) (k0_off38 i 0#32) S1x1.size hh)).squeeze S_ squeezes_S1x1_S_ = osem (Ring.sl 2 ((i 0).val + 1)) 1 := osem_of (off38_eq_0 i h) _
@[sl_canon] theorem osem_40_0 (i : grid0.Coords) (h : (i 0).val = 7) (hh) :
    (cc0_scratch3.slice (Rect.unit (s := S2x4) (k0_off40 i 0#32) S1x1.size hh)).squeeze S_ squeezes_S1x1_S_ = osem (Ring.sl 2 ((i 0).val + 1)) 2 := osem_of (off40_eq_0 i h) _
@[sl_canon] theorem osem_42_0 (i : grid0.Coords) (h : (i 0).val = 7) (hh) :
    (cc0_scratch3.slice (Rect.unit (s := S2x4) (k0_off42 i 0#32) S1x1.size hh)).squeeze S_ squeezes_S1x1_S_ = osem (Ring.sl 2 ((i 0).val + 1)) 3 := osem_of (off42_eq_0 i h) _
@[sl_canon] theorem opart_37_0 (i : grid0.Coords) (h : (i 0).val = 7) (hh hs) :
    (obM.slice (Rect.unit (s := S2x4096x768) (k0_off37 i 0#32) S1x1024x768.size hh) hs).squeeze S1024x768 squeezes_S1x1024x768_S1024x768 = opart (Ring.sl 2 ((i 0).val + 1)) 0 := opart_of (off37_eq_0 i h) _ _
@[sl_canon] theorem opart_39_0 (i : grid0.Coords) (h : (i 0).val = 7) (hh hs) :
    (obM.slice (Rect.unit (s := S2x4096x768) (k0_off39 i 0#32) S1x1024x768.size hh) hs).squeeze S1024x768 squeezes_S1x1024x768_S1024x768 = opart (Ring.sl 2 ((i 0).val + 1)) 1 := opart_of (off39_eq_0 i h) _ _
@[sl_canon] theorem opart_41_0 (i : grid0.Coords) (h : (i 0).val = 7) (hh hs) :
    (obM.slice (Rect.unit (s := S2x4096x768) (k0_off41 i 0#32) S1x1024x768.size hh) hs).squeeze S1024x768 squeezes_S1x1024x768_S1024x768 = opart (Ring.sl 2 ((i 0).val + 1)) 2 := opart_of (off41_eq_0 i h) _ _
@[sl_canon] theorem opart_43_0 (i : grid0.Coords) (h : (i 0).val = 7) (hh hs) :
    (obM.slice (Rect.unit (s := S2x4096x768) (k0_off43 i 0#32) S1x1024x768.size hh) hs).squeeze S1024x768 squeezes_S1x1024x768_S1024x768 = opart (Ring.sl 2 ((i 0).val + 1)) 3 := opart_of (off43_eq_0 i h) _ _
@[sl_canon] theorem oblk_36_0_0 (i : grid0.Coords) (h : (i 0).val = 7) (hh hs) :
    oM.slice (Rect.unit (s := S32768x768) (k0_off36 i 0#32 0#32) S1024x768.size hh) hs = oblk (Ring.bk 8 ((i 0).val - 1)) 0 := oblk_of (off36_eq_0_0 i h) _ _
@[sl_canon] theorem oblk_36_0_1024 (i : grid0.Coords) (h : (i 0).val = 7) (hh hs) :
    oM.slice (Rect.unit (s := S32768x768) (k0_off36 i 0#32 1024#32) S1024x768.size hh) hs = oblk (Ring.bk 8 ((i 0).val - 1)) 1 := oblk_of (off36_eq_0_1024 i h) _ _
@[sl_canon] theorem oblk_36_0_2048 (i : grid0.Coords) (h : (i 0).val = 7) (hh hs) :
    oM.slice (Rect.unit (s := S32768x768) (k0_off36 i 0#32 2048#32) S1024x768.size hh) hs = oblk (Ring.bk 8 ((i 0).val - 1)) 2 := oblk_of (off36_eq_0_2048 i h) _ _
@[sl_canon] theorem oblk_36_0_3072 (i : grid0.Coords) (h : (i 0).val = 7) (hh hs) :
    oM.slice (Rect.unit (s := S32768x768) (k0_off36 i 0#32 3072#32) S1024x768.size hh) hs = oblk (Ring.bk 8 ((i 0).val - 1)) 3 := oblk_of (off36_eq_0_3072 i h) _ _
@[sl_canon] theorem osem_35_1 (i : grid0.Coords) (h : (i 0).val = 7) (hh) :
    (cc0_scratch3.slice (Rect.unit (s := S2x4) (k0_off35 i 1#32) S1x1.size hh)).squeeze S_ squeezes_S1x1_S_ = osem (Ring.sl 2 (i 0).val) 0 := osem_of (off35_eq_1 i h) _
@[sl_canon] theorem osem_38_1 (i : grid0.Coords) (h : (i 0).val = 7) (hh) :
    (cc0_scratch3.slice (Rect.unit (s := S2x4) (k0_off38 i 1#32) S1x1.size hh)).squeeze S_ squeezes_S1x1_S_ = osem (Ring.sl 2 (i 0).val) 1 := osem_of (off38_eq_1 i h) _
@[sl_canon] theorem osem_40_1 (i : grid0.Coords) (h : (i 0).val = 7) (hh) :
    (cc0_scratch3.slice (Rect.unit (s := S2x4) (k0_off40 i 1#32) S1x1.size hh)).squeeze S_ squeezes_S1x1_S_ = osem (Ring.sl 2 (i 0).val) 2 := osem_of (off40_eq_1 i h) _
@[sl_canon] theorem osem_42_1 (i : grid0.Coords) (h : (i 0).val = 7) (hh) :
    (cc0_scratch3.slice (Rect.unit (s := S2x4) (k0_off42 i 1#32) S1x1.size hh)).squeeze S_ squeezes_S1x1_S_ = osem (Ring.sl 2 (i 0).val) 3 := osem_of (off42_eq_1 i h) _
@[sl_canon] theorem opart_37_1 (i : grid0.Coords) (h : (i 0).val = 7) (hh hs) :
    (obM.slice (Rect.unit (s := S2x4096x768) (k0_off37 i 1#32) S1x1024x768.size hh) hs).squeeze S1024x768 squeezes_S1x1024x768_S1024x768 = opart (Ring.sl 2 (i 0).val) 0 := opart_of (off37_eq_1 i h) _ _
@[sl_canon] theorem opart_39_1 (i : grid0.Coords) (h : (i 0).val = 7) (hh hs) :
    (obM.slice (Rect.unit (s := S2x4096x768) (k0_off39 i 1#32) S1x1024x768.size hh) hs).squeeze S1024x768 squeezes_S1x1024x768_S1024x768 = opart (Ring.sl 2 (i 0).val) 1 := opart_of (off39_eq_1 i h) _ _
@[sl_canon] theorem opart_41_1 (i : grid0.Coords) (h : (i 0).val = 7) (hh hs) :
    (obM.slice (Rect.unit (s := S2x4096x768) (k0_off41 i 1#32) S1x1024x768.size hh) hs).squeeze S1024x768 squeezes_S1x1024x768_S1024x768 = opart (Ring.sl 2 (i 0).val) 2 := opart_of (off41_eq_1 i h) _ _
@[sl_canon] theorem opart_43_1 (i : grid0.Coords) (h : (i 0).val = 7) (hh hs) :
    (obM.slice (Rect.unit (s := S2x4096x768) (k0_off43 i 1#32) S1x1024x768.size hh) hs).squeeze S1024x768 squeezes_S1x1024x768_S1024x768 = opart (Ring.sl 2 (i 0).val) 3 := opart_of (off43_eq_1 i h) _ _
@[sl_canon] theorem oblk_36_1_0 (i : grid0.Coords) (h : (i 0).val = 7) (hh hs) :
    oM.slice (Rect.unit (s := S32768x768) (k0_off36 i 1#32 0#32) S1024x768.size hh) hs = oblk (Ring.bk 8 (i 0).val) 0 := oblk_of (off36_eq_1_0 i h) _ _
@[sl_canon] theorem oblk_36_1_1024 (i : grid0.Coords) (h : (i 0).val = 7) (hh hs) :
    oM.slice (Rect.unit (s := S32768x768) (k0_off36 i 1#32 1024#32) S1024x768.size hh) hs = oblk (Ring.bk 8 (i 0).val) 1 := oblk_of (off36_eq_1_1024 i h) _ _
@[sl_canon] theorem oblk_36_1_2048 (i : grid0.Coords) (h : (i 0).val = 7) (hh hs) :
    oM.slice (Rect.unit (s := S32768x768) (k0_off36 i 1#32 2048#32) S1024x768.size hh) hs = oblk (Ring.bk 8 (i 0).val) 2 := oblk_of (off36_eq_1_2048 i h) _ _
@[sl_canon] theorem oblk_36_1_3072 (i : grid0.Coords) (h : (i 0).val = 7) (hh hs) :
    oM.slice (Rect.unit (s := S32768x768) (k0_off36 i 1#32 3072#32) S1024x768.size hh) hs = oblk (Ring.bk 8 (i 0).val) 3 := oblk_of (off36_eq_1_3072 i h) _ _
@[sl_canon] theorem isemL00 (hh) : (cc0_scratch2.slice (Rect.unit (s := S2x4) ![0, 0] S1x1.size hh)).squeeze S_ squeezes_S1x1_S_ = isem 0 0 := isem_of (by decide) _
@[sl_canon] theorem xpartL00 (hh hs) : (xbM.slice (Rect.unit (s := S2x4096x768) ![0, 0, 0] S1x1024x768.size hh) hs).squeeze S1024x768 squeezes_S1x1024x768_S1024x768 = xpart 0 0 := xpart_of (by decide) _ _
@[sl_canon] theorem xblkL00 (hh hs) : xM.slice (Rect.unit (s := S32768x768) ![0, 0] S1024x768.size hh) hs = xblk 0 0 := xblk_of (by decide) _ _
@[sl_canon] theorem isemL01 (hh) : (cc0_scratch2.slice (Rect.unit (s := S2x4) ![0, 1] S1x1.size hh)).squeeze S_ squeezes_S1x1_S_ = isem 0 1 := isem_of (by decide) _
@[sl_canon] theorem xpartL01 (hh hs) : (xbM.slice (Rect.unit (s := S2x4096x768) ![0, 1024, 0] S1x1024x768.size hh) hs).squeeze S1024x768 squeezes_S1x1024x768_S1024x768 = xpart 0 1 := xpart_of (by decide) _ _
@[sl_canon] theorem xblkL01 (hh hs) : xM.slice (Rect.unit (s := S32768x768) ![1024, 0] S1024x768.size hh) hs = xblk 0 1 := xblk_of (by decide) _ _
@[sl_canon] theorem isemL02 (hh) : (cc0_scratch2.slice (Rect.unit (s := S2x4) ![0, 2] S1x1.size hh)).squeeze S_ squeezes_S1x1_S_ = isem 0 2 := isem_of (by decide) _
@[sl_canon] theorem xpartL02 (hh hs) : (xbM.slice (Rect.unit (s := S2x4096x768) ![0, 2048, 0] S1x1024x768.size hh) hs).squeeze S1024x768 squeezes_S1x1024x768_S1024x768 = xpart 0 2 := xpart_of (by decide) _ _
@[sl_canon] theorem xblkL02 (hh hs) : xM.slice (Rect.unit (s := S32768x768) ![2048, 0] S1024x768.size hh) hs = xblk 0 2 := xblk_of (by decide) _ _
@[sl_canon] theorem isemL03 (hh) : (cc0_scratch2.slice (Rect.unit (s := S2x4) ![0, 3] S1x1.size hh)).squeeze S_ squeezes_S1x1_S_ = isem 0 3 := isem_of (by decide) _
@[sl_canon] theorem xpartL03 (hh hs) : (xbM.slice (Rect.unit (s := S2x4096x768) ![0, 3072, 0] S1x1024x768.size hh) hs).squeeze S1024x768 squeezes_S1x1024x768_S1024x768 = xpart 0 3 := xpart_of (by decide) _ _
@[sl_canon] theorem xblkL03 (hh hs) : xM.slice (Rect.unit (s := S32768x768) ![3072, 0] S1024x768.size hh) hs = xblk 0 3 := xblk_of (by decide) _ _
@[sl_canon] theorem isemL10 (hh) : (cc0_scratch2.slice (Rect.unit (s := S2x4) ![1, 0] S1x1.size hh)).squeeze S_ squeezes_S1x1_S_ = isem 1 0 := isem_of (by decide) _
@[sl_canon] theorem xpartL10 (hh hs) : (xbM.slice (Rect.unit (s := S2x4096x768) ![1, 0, 0] S1x1024x768.size hh) hs).squeeze S1024x768 squeezes_S1x1024x768_S1024x768 = xpart 1 0 := xpart_of (by decide) _ _
@[sl_canon] theorem xblkL10 (hh hs) : xM.slice (Rect.unit (s := S32768x768) ![4096, 0] S1024x768.size hh) hs = xblk 1 0 := xblk_of (by decide) _ _
@[sl_canon] theorem isemL11 (hh) : (cc0_scratch2.slice (Rect.unit (s := S2x4) ![1, 1] S1x1.size hh)).squeeze S_ squeezes_S1x1_S_ = isem 1 1 := isem_of (by decide) _
@[sl_canon] theorem xpartL11 (hh hs) : (xbM.slice (Rect.unit (s := S2x4096x768) ![1, 1024, 0] S1x1024x768.size hh) hs).squeeze S1024x768 squeezes_S1x1024x768_S1024x768 = xpart 1 1 := xpart_of (by decide) _ _
@[sl_canon] theorem xblkL11 (hh hs) : xM.slice (Rect.unit (s := S32768x768) ![5120, 0] S1024x768.size hh) hs = xblk 1 1 := xblk_of (by decide) _ _
@[sl_canon] theorem isemL12 (hh) : (cc0_scratch2.slice (Rect.unit (s := S2x4) ![1, 2] S1x1.size hh)).squeeze S_ squeezes_S1x1_S_ = isem 1 2 := isem_of (by decide) _
@[sl_canon] theorem xpartL12 (hh hs) : (xbM.slice (Rect.unit (s := S2x4096x768) ![1, 2048, 0] S1x1024x768.size hh) hs).squeeze S1024x768 squeezes_S1x1024x768_S1024x768 = xpart 1 2 := xpart_of (by decide) _ _
@[sl_canon] theorem xblkL12 (hh hs) : xM.slice (Rect.unit (s := S32768x768) ![6144, 0] S1024x768.size hh) hs = xblk 1 2 := xblk_of (by decide) _ _
@[sl_canon] theorem isemL13 (hh) : (cc0_scratch2.slice (Rect.unit (s := S2x4) ![1, 3] S1x1.size hh)).squeeze S_ squeezes_S1x1_S_ = isem 1 3 := isem_of (by decide) _
@[sl_canon] theorem xpartL13 (hh hs) : (xbM.slice (Rect.unit (s := S2x4096x768) ![1, 3072, 0] S1x1024x768.size hh) hs).squeeze S1024x768 squeezes_S1x1024x768_S1024x768 = xpart 1 3 := xpart_of (by decide) _ _
@[sl_canon] theorem xblkL13 (hh hs) : xM.slice (Rect.unit (s := S32768x768) ![7168, 0] S1024x768.size hh) hs = xblk 1 3 := xblk_of (by decide) _ _

/-! ## The windows the body loads and stores through the whole buffers -/

instance (i : grid0.Coords) : ClosedOff (k0_off19 i) := ⟨slotOff (Ring.sl 2 (i 0).val) 0, off19_eq i⟩
instance (i : grid0.Coords) : ClosedOff (k0_off23 i) := ⟨slotOff (Ring.sl 2 (i 0).val) 1, off23_eq i⟩
instance (i : grid0.Coords) : ClosedOff (k0_off27 i) := ⟨slotOff (Ring.sl 2 (i 0).val) 2, off27_eq i⟩
instance (i : grid0.Coords) : ClosedOff (k0_off31 i) := ⟨slotOff (Ring.sl 2 (i 0).val) 3, off31_eq i⟩

end Cert.KernelIdeal

end

end
-- ==== Proof.Pieces.lean ====
/- What the kernel holds between its steps, piece by piece: a part of a slot, a part of a block of the token array or of the
   result, a cell at zero, and a transfer on its way, in or out. -/
module

public import proofs.«01_k».proof.Proof.Names

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev 𝒱₀ : Variants := Variants.none

section
variable (c : Dev nD) (XA : Buf (Elt F) (xM.view.loc (c : Thread nD τ))) (OA : Buf (Elt F) (oM.view.loc (c : Thread nD τ)))

/-- The words of one part: 1024 rows of 768. -/
abbrev Part (F : FTy → Type) : Type := S1024x768.Idx → Elt F .f32

abbrev cellI (s : Fin 2) (k : Fin 4) : sProp 𝕄 := semVal ((c : Thread nD τ), SemLoc.dma (isem s k).sem) 0
abbrev cellO (s : Fin 2) (k : Fin 4) : sProp 𝕄 := semVal ((c : Thread nD τ), SemLoc.dma (osem s k).sem) 0
/-- A part of a slot held at given contents, of the buffer tokens land in and of the one results leave from. -/
abbrev xsP (s : Fin 2) (k : Fin 4) (f : Buf (Elt F) ((xpart s k).view.loc (c : Thread nD τ))) : sProp 𝕄 :=
  (xpart s k).view.loc (c : Thread nD τ) ↦[(xpart s k).view.set]{fullShare} f
abbrev osP (s : Fin 2) (k : Fin 4) (f : Buf (Elt F) ((opart s k).view.loc (c : Thread nD τ))) : sProp 𝕄 :=
  (opart s k).view.loc (c : Thread nD τ) ↦[(opart s k).view.set]{fullShare} f
/-- A part of a block of tokens, at home; a part of a block of the result, at given contents. -/
abbrev xhP (n : Fin 8) (k : Fin 4) : sProp 𝕄 := (xblk n k).view.loc (c : Thread nD τ) ↦[(xblk n k).view.set]{fullShare} XA
abbrev ohP (n : Fin 8) (k : Fin 4) (f : Buf (Elt F) ((oblk n k).view.loc (c : Thread nD τ))) : sProp 𝕄 :=
  (oblk n k).view.loc (c : Thread nD τ) ↦[(oblk n k).view.set]{fullShare} f

/-- The words of a part of a block of tokens. -/
abbrev xwords (n : Fin 8) (k : Fin 4) : Part F := ReadAs.same.apply ((xblk n k).view.read (Elt F) XA)
/-- A part of a slot once those words have landed in it, over earlier contents. -/
abbrev landed (s : Fin 2) (n : Fin 8) (k : Fin 4) (f : Buf (Elt F) ((xpart s k).view.loc (c : Thread nD τ))) :
    Buf (Elt F) ((xpart s k).view.loc (c : Thread nD τ)) :=
  (xpart s k).view.writes (Elt F) f [⟨Rect.whole S1024x768, xwords c XA n k⟩]
/-- A part of a block of the result once the words `y` are written to it. -/
abbrev wrote (n : Fin 8) (k : Fin 4) (y : Part F) : Buf (Elt F) ((oblk n k).view.loc (c : Thread nD τ)) :=
  (oblk n k).view.writes (Elt F) OA [⟨Rect.whole S1024x768, y⟩]

/-- Tokens on their way into a slot; results on their way out of one. -/
abbrev flI (s : Fin 2) (n : Fin 8) (k : Fin 4) (f : Buf (Elt F) ((xpart s k).view.loc (c : Thread nD τ))) : sProp 𝕄 :=
  Transfers.Flight countersEmb (c : Thread nD τ) (SemLoc.dma (isem s k).sem) () 98304 iprop(xsP c s k (landed c XA s n k f) ∗ xhP c XA n k)
abbrev flO (s : Fin 2) (n : Fin 8) (k : Fin 4) (y : Part F) (g : Buf (Elt F) ((opart s k).view.loc (c : Thread nD τ))) : sProp 𝕄 :=
  Transfers.Flight countersEmb (c : Thread nD τ) (SemLoc.dma (osem s k).sem) () 98304 iprop(ohP c n k (wrote c OA n k y) ∗ osP c s k g)

end

end Cert.KernelIdeal

end

end
-- ==== Proof.Words.lean ====
/- The words the kernel computes for one part of a block: one function of the part's token words and the six weight
   blocks, whichever of the four stretches of the body computes it; and that a part of a slot, read and written through a
   load or a store of its rows, is the part read and written whole. -/
module

public import proofs.«01_k».proof.Proof.Pieces

@[expose] public section

set_option maxRecDepth 16384

noncomputable section

namespace Cert.KernelIdeal

open Cert.KernelIdeal.Gen
open Idealize.ShloMosaic Idealize.ShloMosaic.TcCoe Idealize.ShloMosaic.Tactic

variable {F : FTy → Type} [FloatOps F]

/-- The router's scores of a part: its words against the router's weights, and the router's bias. -/
def scores (x : Part F) (wr : Vec F S768x8 .f32) (br : Vec F S1x8 .f32) : FVec F S1024x8 .f32 :=
  addf (matmul dot_S1024x768_S768x8_S1024x8_1_0_0_1_n_n none x wr (constant S1024x8 .f32 0x00000000#32))
    (broadcastTo S1024x8 (shapeCast S1x8 br shapeCasts_S1x8_S1x8) broadcasts_S1x8_S1024x8)

/-- What is stored for a part whose rows were loaded as `xs`. -/
abbrev stored (xs : Vec F S1x1024x768 .f32) (wr : Vec F S768x8 .f32) (br : Vec F S1x8 .f32) (w1 : Vec F S8x32 .f32)
    (b1 : Vec F S1x32 .f32) (w2 : Vec F S32x768 .f32) (b2 : Vec F S1x768 .f32) : FVec F S1x1024x768 .f32 :=
  k0_pay6 (k0_pay5 xs wr br) w1 b1 w2 b2

/-- The words of a part of the result, from the words of the part of the tokens. -/
def partOut (x : Part F) (wr : Vec F S768x8 .f32) (br : Vec F S1x8 .f32) (w1 : Vec F S8x32 .f32)
    (b1 : Vec F S1x32 .f32) (w2 : Vec F S32x768 .f32) (b2 : Vec F S1x768 .f32) : Part F :=
  shapeCast S1024x768 (k0_pay6 (scores x wr br) w1 b1 w2 b2) shapeCasts_S1x1024x768_S1024x768

theorem stored_eq (xs : Vec F S1x1024x768 .f32) (wr : Vec F S768x8 .f32) (br : Vec F S1x8 .f32) (w1 : Vec F S8x32 .f32)
    (b1 : Vec F S1x32 .f32) (w2 : Vec F S32x768 .f32) (b2 : Vec F S1x768 .f32) :
    shapeCast S1024x768 (stored xs wr br w1 b1 w2 b2) shapeCasts_S1x1024x768_S1024x768
      = partOut (shapeCast S1024x768 xs shapeCasts_S1x1024x768_S1024x768) wr br w1 b1 w2 b2 := rfl

/-- The first part computes the same, cut elsewhere. -/
theorem stored_part0 (xs : Vec F S1x1024x768 .f32) (wr : Vec F S768x8 .f32) (br : Vec F S1x8 .f32) (w1 : Vec F S8x32 .f32)
    (b1 : Vec F S1x32 .f32) (w2 : Vec F S32x768 .f32) (b2 : Vec F S1x768 .f32) :
    k0_pay4 (k0_pay2 xs wr br w1 b1) (k0_pay3 xs wr br w1 b1) (Scalar.ofBits .f32 0x3F800000#32) w2 b2
      = stored xs wr br w1 b1 w2 b2 := rfl
theorem stored_part2 (xs : Vec F S1x1024x768 .f32) (wr : Vec F S768x8 .f32) (br : Vec F S1x8 .f32) (w1 : Vec F S8x32 .f32)
    (b1 : Vec F S1x32 .f32) (w2 : Vec F S32x768 .f32) (b2 : Vec F S1x768 .f32) :
    k0_pay10 (k0_pay8 xs wr br w1 b1) (k0_pay9 xs wr br w1 b1) w2 b2 = stored xs wr br w1 b1 w2 b2 := rfl
theorem stored_part3 (xs : Vec F S1x1024x768 .f32) (wr : Vec F S768x8 .f32) (br : Vec F S1x8 .f32) (w1 : Vec F S8x32 .f32)
    (b1 : Vec F S1x32 .f32) (w2 : Vec F S32x768 .f32) (b2 : Vec F S1x768 .f32) :
    k0_pay13 (k0_pay11 xs wr) (k0_pay12 br) w1 b1 w2 b2 = stored xs wr br w1 b1 w2 b2 := rfl

/-- Loading the rows of a part of a slot, as a block of rows, is reading the part. -/
theorem load_part (s : Fin 2) (k : Fin 4) {off : Fin 3 → Nat} (e : off = slotOff s k) (h)
    (f : (xpart s k).view.ty.Contents (Elt F)) :
    shapeCast S1024x768 (xbM.view.readAt (Elt F) (Rect.unit (s := S2x4096x768) off S1x1024x768.size h).toLoadRect f) shapeCasts_S1x1024x768_S1024x768
      = (xpart s k).view.read (Elt F) f := by
  subst e; rfl

/-- Storing rows to a part of a slot and reading the part back gives the rows. -/
theorem store_part (s : Fin 2) (k : Fin 4) {off : Fin 3 → Nat} (e : off = slotOff s k) (h)
    (g : (opart s k).view.ty.Contents (Elt F)) (z : Vec F S1x1024x768 .f32) :
    (opart s k).view.read (Elt F) ((obM.access (Rect.unit (s := S2x4096x768) off S1x1024x768.size h)).write (Elt F) g z Finset.univ)
      = shapeCast S1024x768 z shapeCasts_S1x1024x768_S1024x768 := by
  subst e
  funext j
  exact View.read_write_of_mem (v := obM.access (Rect.unit (s := S2x4096x768) (slotOff s k) S1x1024x768.size h)) g z (Finset.mem_univ _)

/-- So a part whose tokens have landed leaves for the result as the words computed from them. -/
theorem part_words (s : Fin 2) (k : Fin 4) {off : Fin 3 → Nat} (e : off = slotOff s k) (h)
    (f : (xpart s k).view.ty.Contents (Elt F)) (x : Part F) (g : (opart s k).view.ty.Contents (Elt F)) (wr : Vec F S768x8 .f32) (br : Vec F S1x8 .f32)
    (w1 : Vec F S8x32 .f32) (b1 : Vec F S1x32 .f32) (w2 : Vec F S32x768 .f32) (b2 : Vec F S1x768 .f32) :
    ReadAs.same.apply ((opart s k).view.read (Elt F)
        ((obM.access (Rect.unit (s := S2x4096x768) off S1x1024x768.size h)).write (Elt F) g
          (stored (xbM.view.readAt (Elt F) (Rect.unit (s := S2x4096x768) off S1x1024x768.size h).toLoadRect
            ((xpart s k).view.writes (Elt F) f [⟨Rect.whole S1024x768, x⟩])) wr br w1 b1 w2 b2) Finset.univ))
      = partOut x wr br w1 b1 w2 b2 := by
  show (opart s k).view.read (Elt F) _ = _
  rw [store_part s k e, stored_eq, load_part s k e, View.read_writes_whole]

end Cert.KernelIdeal

end

end
-- ==== Proof.States.lean ====
/- One point's body, taken apart by name: what it holds, what its windows read, the words it computes. -/
module

public import proofs.«01_k».proof.Proof.Words

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (XA : Buf (Elt F) (xM.view.loc (c : Thread nD τ))) (OA : Buf (Elt F) (oM.view.loc (c : Thread nD τ)))
  (i : grid0.Coords)
  (a2 : Memref sig .tc .vmem S768x8 .f32) (ha2 : a2.IsWhole) (a3 : Memref sig .tc .vmem S1x8 .f32) (ha3 : a3.IsWhole)
  (a4 : Memref sig .tc .vmem S8x32 .f32) (ha4 : a4.IsWhole) (a5 : Memref sig .tc .vmem S1x32 .f32) (ha5 : a5.IsWhole)
  (a6 : Memref sig .tc .vmem S32x768 .f32) (ha6 : a6.IsWhole) (a7 : Memref sig .tc .vmem S1x768 .f32) (ha7 : a7.IsWhole)

abbrev bodyG : Prog (TpuEff nD τ sig (Elt F) Λ₀ .tc) PUnit :=
  cc0__moe_block (F := F) i xM (Memref.isWhole_whole _) a2 ha2 a3 ha3 a4 ha4 a5 ha5 a6 ha6 a7 ha7 oM (Memref.isWhole_whole _)
    xbM (Memref.isWhole_whole _) obM (Memref.isWhole_whole _) cc0_scratch2 cc0_scratch3

abbrev winsP (g2 : Buf (Elt F) (a2.view.loc (c : Thread nD τ))) (g3 : Buf (Elt F) (a3.view.loc (c : Thread nD τ)))
    (g4 : Buf (Elt F) (a4.view.loc (c : Thread nD τ))) (g5 : Buf (Elt F) (a5.view.loc (c : Thread nD τ)))
    (g6 : Buf (Elt F) (a6.view.loc (c : Thread nD τ))) (g7 : Buf (Elt F) (a7.view.loc (c : Thread nD τ))) : sProp 𝕄 :=
  iprop((a2.view.loc (c : Thread nD τ) ↦[a2.view.set]{fullShare} g2) ∗ (a3.view.loc (c : Thread nD τ) ↦[a3.view.set]{fullShare} g3)
    ∗ (a4.view.loc (c : Thread nD τ) ↦[a4.view.set]{fullShare} g4) ∗ (a5.view.loc (c : Thread nD τ) ↦[a5.view.set]{fullShare} g5)
    ∗ (a6.view.loc (c : Thread nD τ) ↦[a6.view.set]{fullShare} g6) ∗ (a7.view.loc (c : Thread nD τ) ↦[a7.view.set]{fullShare} g7))

abbrev four (P : Fin 4 → sProp 𝕄) : sProp 𝕄 := iprop(P 0 ∗ P 1 ∗ P 2 ∗ P 3)

/-- What a point's body reads of its six windows: each block whole. -/
abbrev rd2 (g2 : Buf (Elt F) (a2.view.loc (c : Thread nD τ))) : Vec F S768x8 .f32 := a2.view.readAt (Elt F) (Rect.unit (s := S768x8) ![0, 0] S768x8.size inb_S768x8_S768x8_0_0).toLoadRect g2
abbrev rd3 (g3 : Buf (Elt F) (a3.view.loc (c : Thread nD τ))) : Vec F S1x8 .f32 := a3.view.readAt (Elt F) (Rect.unit (s := S1x8) ![0, 0] S1x8.size inb_S1x8_S1x8_0_0).toLoadRect g3
abbrev rd4 (g4 : Buf (Elt F) (a4.view.loc (c : Thread nD τ))) : Vec F S8x32 .f32 := a4.view.readAt (Elt F) (Rect.unit (s := S8x32) ![0, 0] S8x32.size inb_S8x32_S8x32_0_0).toLoadRect g4
abbrev rd5 (g5 : Buf (Elt F) (a5.view.loc (c : Thread nD τ))) : Vec F S1x32 .f32 := a5.view.readAt (Elt F) (Rect.unit (s := S1x32) ![0, 0] S1x32.size inb_S1x32_S1x32_0_0).toLoadRect g5
abbrev rd6 (g6 : Buf (Elt F) (a6.view.loc (c : Thread nD τ))) : Vec F S32x768 .f32 := a6.view.readAt (Elt F) (Rect.unit (s := S32x768) ![0, 0] S32x768.size inb_S32x768_S32x768_0_0).toLoadRect g6
abbrev rd7 (g7 : Buf (Elt F) (a7.view.loc (c : Thread nD τ))) : Vec F S1x768 .f32 := a7.view.readAt (Elt F) (Rect.unit (s := S1x768) ![0, 0] S1x768.size inb_S1x768_S1x768_0_0).toLoadRect g7

/-- The words a point's body computes for part `k` of block `n`. -/
abbrev outW (g2 : Buf (Elt F) (a2.view.loc (c : Thread nD τ))) (g3 : Buf (Elt F) (a3.view.loc (c : Thread nD τ)))
    (g4 : Buf (Elt F) (a4.view.loc (c : Thread nD τ))) (g5 : Buf (Elt F) (a5.view.loc (c : Thread nD τ)))
    (g6 : Buf (Elt F) (a6.view.loc (c : Thread nD τ))) (g7 : Buf (Elt F) (a7.view.loc (c : Thread nD τ))) (n : Fin 8) (k : Fin 4) : Part F :=
  partOut (xwords c XA n k) (rd2 c a2 g2) (rd3 c a3 g3) (rd4 c a4 g4) (rd5 c a5 g5) (rd6 c a6 g6) (rd7 c a7 g7)

/-- A transfer out, its cell and its words under other names. -/
theorem flO_of (s : Fin 2) (n : Fin 8) (k : Fin 4) {q : SemLoc sig} {y y' : Part F} {off : Fin 3 → Nat} {h : ∀ a, off a + S1x1024x768.size a ≤ S2x4096x768.size a}
    {g : BufTy.Contents (Elt F) (obM.access (Rect.unit (s := S2x4096x768) off S1x1024x768.size h)).ty} :
    Transfers.Flight countersEmb (c : Thread nD τ) q () 98304
        iprop(((oblk n k).view.loc (c : Thread nD τ) ↦[(oblk n k).view.set]{fullShare} (oblk n k).view.writes (Elt F) OA [⟨Rect.whole S1024x768, y⟩])
          ∗ ((opart s k).view.loc (c : Thread nD τ) ↦[(opart s k).view.set]{fullShare} g))
      ⊢ (iprop(⌜q = SemLoc.dma (osem s k).sem ∧ y = y'⌝ -∗ ∃ g, flO c OA s n k y' g) : sProp 𝕄) := by
  iintro H %h; obtain ⟨rfl, rfl⟩ := h; iexists g; iexact H

/-- A transfer in, its cell and its words under other names, whatever its slot held before. -/
theorem flI_of (s : Fin 2) (n : Fin 8) (k : Fin 4) {q : SemLoc sig} {f : Buf (Elt F) ((xpart s k).view.loc (c : Thread nD τ))} {w : Part F}
    {ps : List ((r : Rect S1024x768) × (r.shape.Idx → Elt F .f32))} :
    Transfers.Flight countersEmb (c : Thread nD τ) q () 98304
        iprop(((xpart s k).view.loc (c : Thread nD τ) ↦[(xpart s k).view.set]{fullShare} (xpart s k).view.writes (Elt F) f (⟨Rect.whole S1024x768, w⟩ :: ps))
          ∗ ((xblk n k).view.loc (c : Thread nD τ) ↦[(xblk n k).view.set]{fullShare} XA))
      ⊢ (iprop(⌜q = SemLoc.dma (isem s k).sem ∧ w = xwords c XA n k⌝ -∗ ∃ f, flI c XA s n k f) : sProp 𝕄) := by
  iintro H %h; obtain ⟨rfl, rfl⟩ := h; iexists (xpart s k).view.writes (Elt F) f ps; iexact H

/-- The result part a store to a slot leaves there, once it has left: the words are those of the part. -/
theorem ohP_of (n : Fin 8) (k : Fin 4) {y y' : Part F} :
    ((oblk n k).view.loc (c : Thread nD τ) ↦[(oblk n k).view.set]{fullShare} (oblk n k).view.writes (Elt F) OA [⟨Rect.whole S1024x768, y⟩])
      ⊢ (iprop(⌜y = y'⌝ -∗ ohP c n k (wrote c OA n k y')) : sProp 𝕄) := by
  iintro H %h; subst h; iexact H

/-- A part of a slot its words have left, whatever was stored there. -/
theorem outFree_of (s : Fin 2) (k : Fin 4) {off : Fin 3 → Nat} {h : ∀ a, off a + S1x1024x768.size a ≤ S2x4096x768.size a}
    {g : BufTy.Contents (Elt F) (obM.access (Rect.unit (s := S2x4096x768) off S1x1024x768.size h)).ty} :
    ((opart s k).view.loc (c : Thread nD τ) ↦[(opart s k).view.set]{fullShare} g)
      ⊢ (iprop(cellO c s k -∗ ∃ g, osP c s k g ∗ cellO c s k) : sProp 𝕄) := by
  iintro H Hc; iexists g
  isplitl [H]; · iexact H
  iexact Hc

/-- The four parts of a slot or block, in each of the states a step finds or leaves them in: tokens on their way in, the
    slot free, tokens at home; results on their way out, the slot free, the block untouched, the block written. -/
abbrev inP (s : Fin 2) (n : Fin 8) : sProp 𝕄 := four fun k => iprop(∃ f, flI c XA s n k f)
abbrev inFree (s : Fin 2) : sProp 𝕄 := four fun k => iprop(∃ f, xsP c s k f ∗ cellI c s k)
abbrev xhome (n : Fin 8) : sProp 𝕄 := four fun k => xhP c XA n k
abbrev outP (s : Fin 2) (n : Fin 8) (y : Fin 4 → Part F) : sProp 𝕄 := four fun k => iprop(∃ g, flO c OA s n k (y k) g)
abbrev outFree (s : Fin 2) : sProp 𝕄 := four fun k => iprop(∃ g, osP c s k g ∗ cellO c s k)
abbrev ofresh (n : Fin 8) : sProp 𝕄 := four fun k => ohP c n k OA
abbrev odone (n : Fin 8) (y : Fin 4 → Part F) : sProp 𝕄 := four fun k => ohP c n k (wrote c OA n k (y k))

end

end Cert.KernelIdeal

end

end
-- ==== Proof.Inv.lean ====
/- What the kernel holds before point `t`: the tokens of two blocks on their way in, the results of two blocks on their
   way out, every other block of tokens at home, every earlier block of the result written; and what a point takes from
   that and gives back. -/
module

public import proofs.«01_k».proof.Proof.States

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (XA : Buf (Elt F) (xM.view.loc (c : Thread nD τ))) (OA : Buf (Elt F) (oM.view.loc (c : Thread nD τ)))
  (Y : Fin 8 → Fin 4 → Part F)

/-- The slot block `n` lands in (`n` is `t` or `t + 1`): before the first point, and past the last block, it is free. -/
def inSt (t n : ℕ) : sProp 𝕄 := if 1 ≤ t ∧ n < 8 then inP c XA (Ring.sl 2 n) (Ring.bk 8 n) else inFree c (Ring.sl 2 n)
/-- The slot block `n` leaves from: block `n - 2` is still leaving it, unless there is none or all are awaited. -/
def outSt (t n : ℕ) : sProp 𝕄 := if 2 ≤ n ∧ t < 8 then outP c OA (Ring.sl 2 n) (Ring.bk 8 (n - 2)) (Y (Ring.bk 8 (n - 2))) else outFree c (Ring.sl 2 n)
/-- Block `n` of the tokens: at home unless on its way in. -/
def xSt (t : ℕ) (n : Fin 8) : sProp 𝕄 := if 1 ≤ t ∧ (n.val = t ∨ n.val = t + 1) then iprop(emp) else xhome c XA n
/-- Block `n` of the result: on its way, written, or untouched. -/
def oSt (t : ℕ) (n : Fin 8) : sProp 𝕄 :=
  if t < 8 ∧ (n.val + 2 = t ∨ n.val + 1 = t) then iprop(emp) else if n.val < t then odone c OA n (Y n) else ofresh c OA n
/-- All of it. -/
def inv (t : ℕ) : sProp 𝕄 :=
  iprop(inSt c XA t t ∗ inSt c XA t (t + 1) ∗ outSt c OA Y t t ∗ outSt c OA Y t (t + 1)
    ∗ bigSep Finset.univ (xSt c XA t) ∗ bigSep Finset.univ (oSt c OA Y t))

theorem inSt_on {t n : ℕ} (h : 1 ≤ t) (hn : n < 8) : inSt c XA t n = inP c XA (Ring.sl 2 n) (Ring.bk 8 n) := if_pos ⟨h, hn⟩
theorem inSt_off {t n : ℕ} (h : t = 0 ∨ 8 ≤ n) : inSt c XA t n = inFree c (Ring.sl 2 n) := if_neg (by omega)
theorem outSt_on {t n : ℕ} (h : 2 ≤ n) (ht : t < 8) :
    outSt c OA Y t n = outP c OA (Ring.sl 2 n) (Ring.bk 8 (n - 2)) (Y (Ring.bk 8 (n - 2))) := if_pos ⟨h, ht⟩
theorem outSt_off {t n : ℕ} (h : n < 2 ∨ 8 ≤ t) : outSt c OA Y t n = outFree c (Ring.sl 2 n) := if_neg (by omega)
theorem xSt_away {t n : ℕ} (hn : n < 8) (ht : 1 ≤ t) (h : n = t ∨ n = t + 1) : xSt c XA t (Ring.bk 8 n) = iprop(emp) :=
  if_pos (by rw [Ring.bk_val hn]; exact ⟨ht, h⟩)
theorem xSt_home {t n : ℕ} (hn : n < 8) (h : t = 0 ∨ (n ≠ t ∧ n ≠ t + 1)) : xSt c XA t (Ring.bk 8 n) = xhome c XA (Ring.bk 8 n) :=
  if_neg (by rw [Ring.bk_val hn]; omega)
theorem oSt_away {t n : ℕ} (hn : n < 8) (ht : t < 8) (h : n + 2 = t ∨ n + 1 = t) : oSt c OA Y t (Ring.bk 8 n) = iprop(emp) :=
  if_pos (by rw [Ring.bk_val hn]; exact ⟨ht, h⟩)
theorem oSt_done {t n : ℕ} (hn : n < 8) (h : n < t) (h' : 8 ≤ t ∨ n + 2 < t) : oSt c OA Y t (Ring.bk 8 n) = odone c OA (Ring.bk 8 n) (Y (Ring.bk 8 n)) :=
  (if_neg (by rw [Ring.bk_val hn]; omega)).trans (if_pos (by rw [Ring.bk_val hn]; exact h))
theorem oSt_fresh {t n : ℕ} (hn : n < 8) (h : t ≤ n) : oSt c OA Y t (Ring.bk 8 n) = ofresh c OA (Ring.bk 8 n) :=
  (if_neg (by rw [Ring.bk_val hn]; omega)).trans (if_neg (by rw [Ring.bk_val hn]; omega))

/-- A block that is no block of the given numbers has another number. -/
theorem val_ne_of_ne_bk {n : Fin 8} {t : ℕ} (ht : t < 8) (h : n ≠ Ring.bk 8 t) : n.val ≠ t :=
  fun e => h (Fin.ext (by rw [Ring.bk_val ht]; exact e))
theorem bk_ne {t u : ℕ} (ht : t < 8) (hu : u < 8) (h : t ≠ u) : Ring.bk 8 t ≠ Ring.bk 8 u :=
  fun e => h (by rw [← Ring.bk_val ht, ← Ring.bk_val hu, e])
theorem xSt_keep {t : ℕ} {n : Fin 8} (h : (n.val ≠ t ∨ t = 0) ∧ n.val ≠ t + 1 ∧ n.val ≠ t + 2) : xSt c XA t n = xSt c XA (t + 1) n := by
  unfold xSt; rw [if_neg (by omega), if_neg (by omega)]
theorem oSt_keep {t : ℕ} {n : Fin 8} (h : n.val ≠ t ∧ n.val + 2 ≠ t) (h' : t < 7 ∨ n.val + 1 ≠ t) : oSt c OA Y t n = oSt c OA Y (t + 1) n := by
  unfold oSt
  by_cases ht : n.val < t
  · rw [if_pos ht, if_pos (by omega : n.val < t + 1)]
    by_cases h1 : n.val + 1 = t
    · rw [if_pos (by omega), if_pos (by omega)]
    · rw [if_neg (by omega), if_neg (by omega)]
  · rw [if_neg ht, if_neg (by omega : ¬ n.val < t + 1), if_neg (by omega), if_neg (by omega)]

end

/-- Three members of a separating product taken out, to be put back as others. -/
theorem bigSep_swap3 {Φ Φ' : Fin 8 → sProp 𝕄} (a b d : Fin 8) (hab : b ≠ a) (had : d ≠ a) (hbd : d ≠ b)
    (h : ∀ n, n ≠ a → n ≠ b → n ≠ d → Φ n = Φ' n) :
    bigSep Finset.univ Φ ⊢ iprop((Φ a ∗ Φ b ∗ Φ d) ∗ ((Φ' a ∗ Φ' b ∗ Φ' d) -∗ bigSep Finset.univ Φ')) := by
  have e (Ψ : Fin 8 → sProp 𝕄) : bigSep Finset.univ Ψ = iprop(Ψ a ∗ Ψ b ∗ Ψ d ∗ bigSep (((Finset.univ.erase a).erase b).erase d) Ψ) := by
    rw [BI.bigSep_erase (Finset.mem_univ a), BI.bigSep_erase (i := b) (Finset.mem_erase.mpr ⟨hab, Finset.mem_univ b⟩),
      BI.bigSep_erase (i := d) (Finset.mem_erase.mpr ⟨hbd, Finset.mem_erase.mpr ⟨had, Finset.mem_univ d⟩⟩)]
    rfl
  have e' : bigSep (((Finset.univ.erase a).erase b).erase d) Φ = bigSep (((Finset.univ.erase a).erase b).erase d) Φ' :=
    BI.bigSep_congr fun n hn => by
      obtain ⟨h1, h2, h3, -⟩ := by simpa only [Finset.mem_erase] using hn
      exact h n h3 h2 h1
  rw [e Φ, e Φ', e']
  iintro ⟨Ha, Hb, Hd, Hr⟩
  isplitl [Ha Hb Hd]
  · isplitl [Ha]; · iexact Ha
    isplitl [Hb]; · iexact Hb
    iexact Hd
  iintro ⟨Ha, Hb, Hd⟩
  isplitl [Ha]; · iexact Ha
  isplitl [Hb]; · iexact Hb
  isplitl [Hd]; · iexact Hd
  iexact Hr

section
variable (c : Dev nD) (XA : Buf (Elt F) (xM.view.loc (c : Thread nD τ))) (OA : Buf (Elt F) (oM.view.loc (c : Thread nD τ)))
  (Y : Fin 8 → Fin 4 → Part F)

/-- The blocks of tokens across a point before the last two: the block two ahead is lent, the point's own comes home. -/
theorem xSt_step {t : ℕ} (ht : 1 ≤ t) (ht' : t + 2 < 8) :
    bigSep Finset.univ (xSt c XA t) ⊢ iprop(xhome c XA (Ring.bk 8 (t + 2)) ∗ (xhome c XA (Ring.bk 8 t) -∗ bigSep Finset.univ (xSt c XA (t + 1)))) := by
  have hs := bigSep_swap3 (Φ := xSt c XA t) (Φ' := xSt c XA (t + 1)) (Ring.bk 8 t) (Ring.bk 8 (t + 1)) (Ring.bk 8 (t + 2))
    (bk_ne (by omega) (by omega) (by omega)) (bk_ne (by omega) (by omega) (by omega)) (bk_ne (by omega) (by omega) (by omega))
    (fun n h0 h1 h2 => xSt_keep c XA ⟨.inl (val_ne_of_ne_bk (by omega) h0), val_ne_of_ne_bk (by omega) h1, val_ne_of_ne_bk (by omega) h2⟩)
  rw [xSt_away c XA (t := t) (n := t) (by omega) ht (.inl rfl), xSt_away c XA (t := t) (n := t + 1) (by omega) ht (.inr rfl),
    xSt_home c XA (t := t) (n := t + 2) (by omega) (by omega), xSt_home c XA (t := t + 1) (n := t) (by omega) (by omega),
    xSt_away c XA (t := t + 1) (n := t + 1) (by omega) (by omega) (.inl rfl), xSt_away c XA (t := t + 1) (n := t + 2) (by omega) (by omega) (.inr rfl)] at hs
  refine hs.trans ?_
  iintro ⟨⟨-, -, H⟩, Hr⟩
  isplitl [H]; · iexact H
  iintro Hn
  iapply Hr
  isplitl [Hn]; · iexact Hn
  isplitl [] <;> iempintro

/-- Across the first point: the blocks of the first three points are lent, the first comes home. -/
theorem xSt_first :
    bigSep Finset.univ (xSt c XA 0) ⊢ iprop((xhome c XA (Ring.bk 8 0) ∗ xhome c XA (Ring.bk 8 1) ∗ xhome c XA (Ring.bk 8 2))
      ∗ (xhome c XA (Ring.bk 8 0) -∗ bigSep Finset.univ (xSt c XA 1))) := by
  have hs := bigSep_swap3 (Φ := xSt c XA 0) (Φ' := xSt c XA 1) (Ring.bk 8 0) (Ring.bk 8 1) (Ring.bk 8 2)
    (bk_ne (by omega) (by omega) (by omega)) (bk_ne (by omega) (by omega) (by omega)) (bk_ne (by omega) (by omega) (by omega))
    (fun n h0 h1 h2 => xSt_keep c XA ⟨.inr rfl, val_ne_of_ne_bk (by omega) h1, val_ne_of_ne_bk (by omega) h2⟩)
  rw [xSt_home c XA (t := 0) (n := 0) (by omega) (by omega), xSt_home c XA (t := 0) (n := 1) (by omega) (by omega),
    xSt_home c XA (t := 0) (n := 2) (by omega) (by omega), xSt_home c XA (t := 1) (n := 0) (by omega) (by omega),
    xSt_away c XA (t := 1) (n := 1) (by omega) (by omega) (.inl rfl), xSt_away c XA (t := 1) (n := 2) (by omega) (by omega) (.inr rfl)] at hs
  refine hs.trans ?_
  iintro ⟨H, Hr⟩
  isplitl [H]; · iexact H
  iintro Hn
  iapply Hr
  isplitl [Hn]; · iexact Hn
  isplitl [] <;> iempintro

/-- Across the last two points: the point's own block comes home, none is lent. -/
theorem xSt_late : bigSep Finset.univ (xSt c XA 6) ⊢ iprop(xhome c XA (Ring.bk 8 6) -∗ bigSep Finset.univ (xSt c XA 7)) := by
  have hs := bigSep_swap3 (Φ := xSt c XA 6) (Φ' := xSt c XA 7) (Ring.bk 8 6) (Ring.bk 8 7) (Ring.bk 8 0)
    (bk_ne (by omega) (by omega) (by omega)) (bk_ne (by omega) (by omega) (by omega)) (bk_ne (by omega) (by omega) (by omega))
    (fun n h0 h1 _ => xSt_keep c XA ⟨.inl (val_ne_of_ne_bk (by omega) h0), val_ne_of_ne_bk (by omega) h1, by have := n.isLt; omega⟩)
  rw [xSt_away c XA (t := 6) (n := 6) (by omega) (by omega) (.inl rfl), xSt_away c XA (t := 6) (n := 7) (by omega) (by omega) (.inr rfl),
    xSt_home c XA (t := 6) (n := 0) (by omega) (by omega), xSt_home c XA (t := 7) (n := 6) (by omega) (by omega),
    xSt_away c XA (t := 7) (n := 7) (by omega) (by omega) (.inl rfl), xSt_home c XA (t := 7) (n := 0) (by omega) (by omega)] at hs
  refine hs.trans ?_
  iintro ⟨⟨-, -, H⟩, Hr⟩ Hn
  iapply Hr
  isplitl [Hn]; · iexact Hn
  isplitl []; · iempintro
  iexact H
theorem xSt_last : bigSep Finset.univ (xSt c XA 7) ⊢ iprop(xhome c XA (Ring.bk 8 7) -∗ bigSep Finset.univ (xSt c XA 8)) := by
  have hs := bigSep_swap3 (Φ := xSt c XA 7) (Φ' := xSt c XA 8) (Ring.bk 8 7) (Ring.bk 8 1) (Ring.bk 8 0)
    (bk_ne (by omega) (by omega) (by omega)) (bk_ne (by omega) (by omega) (by omega)) (bk_ne (by omega) (by omega) (by omega))
    (fun n h0 _ _ => xSt_keep c XA ⟨.inl (val_ne_of_ne_bk (by omega) h0), by have := n.isLt; omega, by have := n.isLt; omega⟩)
  rw [xSt_away c XA (t := 7) (n := 7) (by omega) (by omega) (.inl rfl), xSt_home c XA (t := 7) (n := 1) (by omega) (by omega),
    xSt_home c XA (t := 7) (n := 0) (by omega) (by omega), xSt_home c XA (t := 8) (n := 7) (by omega) (by omega),
    xSt_home c XA (t := 8) (n := 1) (by omega) (by omega), xSt_home c XA (t := 8) (n := 0) (by omega) (by omega)] at hs
  refine hs.trans ?_
  iintro ⟨⟨-, H⟩, Hr⟩ Hn
  iapply Hr
  isplitl [Hn]; · iexact Hn
  iexact H

/-- The blocks of the result across the first two points: the point's own is lent. -/
theorem oSt_first {t : ℕ} (ht : t < 2) :
    bigSep Finset.univ (oSt c OA Y t) ⊢ iprop(ofresh c OA (Ring.bk 8 t) ∗ bigSep Finset.univ (oSt c OA Y (t + 1))) := by
  have hs := bigSep_swap3 (Φ := oSt c OA Y t) (Φ' := oSt c OA Y (t + 1)) (Ring.bk 8 t) (Ring.bk 8 (t + 1)) (Ring.bk 8 (t + 2))
    (bk_ne (by omega) (by omega) (by omega)) (bk_ne (by omega) (by omega) (by omega)) (bk_ne (by omega) (by omega) (by omega))
    (fun n h0 h1 _ => oSt_keep c OA Y ⟨val_ne_of_ne_bk (by omega) h0, by omega⟩ (.inl (by omega)))
  rw [oSt_fresh c OA Y (t := t) (n := t) (by omega) (by omega), oSt_fresh c OA Y (t := t) (n := t + 1) (by omega) (by omega),
    oSt_fresh c OA Y (t := t) (n := t + 2) (by omega) (by omega), oSt_away c OA Y (t := t + 1) (n := t) (by omega) (by omega) (.inr rfl),
    oSt_fresh c OA Y (t := t + 1) (n := t + 1) (by omega) (by omega), oSt_fresh c OA Y (t := t + 1) (n := t + 2) (by omega) (by omega)] at hs
  refine hs.trans ?_
  iintro ⟨⟨H, Hs⟩, Hr⟩
  isplitl [H]; · iexact H
  iapply Hr
  isplitl []; · iempintro
  iexact Hs
/-- Across a later one: the block of two points ago comes back written. -/
theorem oSt_step {t : ℕ} (ht : 2 ≤ t) (ht' : t < 7) :
    bigSep Finset.univ (oSt c OA Y t) ⊢ iprop(ofresh c OA (Ring.bk 8 t)
      ∗ (odone c OA (Ring.bk 8 (t - 2)) (Y (Ring.bk 8 (t - 2))) -∗ bigSep Finset.univ (oSt c OA Y (t + 1)))) := by
  have hs := bigSep_swap3 (Φ := oSt c OA Y t) (Φ' := oSt c OA Y (t + 1)) (Ring.bk 8 t) (Ring.bk 8 (t - 1)) (Ring.bk 8 (t - 2))
    (bk_ne (by omega) (by omega) (by omega)) (bk_ne (by omega) (by omega) (by omega)) (bk_ne (by omega) (by omega) (by omega))
    (fun n h0 h1 h2 => oSt_keep c OA Y ⟨val_ne_of_ne_bk (by omega) h0, by have := val_ne_of_ne_bk (by omega) h2; omega⟩ (.inl (by omega)))
  rw [oSt_fresh c OA Y (t := t) (n := t) (by omega) (by omega), oSt_away c OA Y (t := t) (n := t - 1) (by omega) (by omega) (by omega),
    oSt_away c OA Y (t := t) (n := t - 2) (by omega) (by omega) (by omega), oSt_away c OA Y (t := t + 1) (n := t) (by omega) (by omega) (.inr rfl),
    oSt_away c OA Y (t := t + 1) (n := t - 1) (by omega) (by omega) (by omega), oSt_done c OA Y (t := t + 1) (n := t - 2) (by omega) (by omega) (by omega)] at hs
  refine hs.trans ?_
  iintro ⟨⟨H, -, -⟩, Hr⟩
  isplitl [H]; · iexact H
  iintro Hd
  iapply Hr
  isplitl []; · iempintro
  isplitl []; · iempintro
  iexact Hd
/-- Across the last: every block comes back written. -/
theorem oSt_last :
    bigSep Finset.univ (oSt c OA Y 7) ⊢ iprop(ofresh c OA (Ring.bk 8 7)
      ∗ ((odone c OA (Ring.bk 8 7) (Y (Ring.bk 8 7)) ∗ odone c OA (Ring.bk 8 6) (Y (Ring.bk 8 6)) ∗ odone c OA (Ring.bk 8 5) (Y (Ring.bk 8 5)))
        -∗ bigSep Finset.univ (oSt c OA Y 8))) := by
  have hs := bigSep_swap3 (Φ := oSt c OA Y 7) (Φ' := oSt c OA Y 8) (Ring.bk 8 7) (Ring.bk 8 6) (Ring.bk 8 5)
    (bk_ne (by omega) (by omega) (by omega)) (bk_ne (by omega) (by omega) (by omega)) (bk_ne (by omega) (by omega) (by omega))
    (fun n h0 h1 h2 => oSt_keep c OA Y ⟨val_ne_of_ne_bk (by omega) h0, by have := val_ne_of_ne_bk (by omega) h2; omega⟩
      (.inr (by have := val_ne_of_ne_bk (by omega) h1; omega)))
  rw [oSt_fresh c OA Y (t := 7) (n := 7) (by omega) (by omega), oSt_away c OA Y (t := 7) (n := 6) (by omega) (by omega) (by omega),
    oSt_away c OA Y (t := 7) (n := 5) (by omega) (by omega) (by omega), oSt_done c OA Y (t := 8) (n := 7) (by omega) (by omega) (by omega),
    oSt_done c OA Y (t := 8) (n := 6) (by omega) (by omega) (by omega), oSt_done c OA Y (t := 8) (n := 5) (by omega) (by omega) (by omega)] at hs
  refine hs.trans ?_
  iintro ⟨⟨H, -, -⟩, Hr⟩
  isplitl [H]; · iexact H
  iexact Hr
end

end Cert.KernelIdeal

end

end
-- ==== Proof.RunFirst.lean ====
/- The body at its first two points. -/
module

public import proofs.«01_k».proof.Proof.States

@[expose] public section

set_option maxRecDepth 16384
set_option maxHeartbeats 2000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (XA : Buf (Elt F) (xM.view.loc (c : Thread nD τ))) (OA : Buf (Elt F) (oM.view.loc (c : Thread nD τ)))
  (i : grid0.Coords)
  (a2 : Memref sig .tc .vmem S768x8 .f32) (ha2 : a2.IsWhole) (a3 : Memref sig .tc .vmem S1x8 .f32) (ha3 : a3.IsWhole)
  (a4 : Memref sig .tc .vmem S8x32 .f32) (ha4 : a4.IsWhole) (a5 : Memref sig .tc .vmem S1x32 .f32) (ha5 : a5.IsWhole)
  (a6 : Memref sig .tc .vmem S32x768 .f32) (ha6 : a6.IsWhole) (a7 : Memref sig .tc .vmem S1x768 .f32) (ha7 : a7.IsWhole)

/-- The second point: no result is awaited yet. -/
theorem runSecond (hi : (i 0).val = 1) (g2 g3 g4 g5 g6 g7) (W : Waits sig Unit) (Q : PUnit → sProp 𝕄) :
    iprop((winsP c a2 a3 a4 a5 a6 a7 g2 g3 g4 g5 g6 g7 ∗ owes (c : Thread nD τ) 0 W
        ∗ inP c XA (Ring.sl 2 (i 0).val) (Ring.bk 8 (i 0).val) ∗ xhome c XA (Ring.bk 8 ((i 0).val + 2)) ∗ outFree c (Ring.sl 2 (i 0).val) ∗ ofresh c OA (Ring.bk 8 (i 0).val))
      ∗ ((winsP c a2 a3 a4 a5 a6 a7 g2 g3 g4 g5 g6 g7 ∗ (∃ W, owes (c : Thread nD τ) 0 W)
        ∗ inP c XA (Ring.sl 2 (i 0).val) (Ring.bk 8 ((i 0).val + 2)) ∗ xhome c XA (Ring.bk 8 (i 0).val) ∗ outP c OA (Ring.sl 2 (i 0).val) (Ring.bk 8 (i 0).val) (outW c XA a2 a3 a4 a5 a6 a7 g2 g3 g4 g5 g6 g7 (Ring.bk 8 (i 0).val))) -∗ Q PUnit.unit))
      ⊢ wp frame (wpE (defs₀ (F := F)) 𝒱₀ (c : Thread nD τ) none) Set.univ (bodyG i a2 ha2 a3 ha3 a4 ha4 a5 ha5 a6 ha6 a7 ha7) Q := by
  have hi' : (i 0).val + 2 < 8 := by omega
  have h1 := mt (cond1_iff i).mp (by omega)
  have h2 := mt (cond2_iff i).mp (by omega)
  have h3 := (cond3_iff i).mpr hi'
  have h4 := (cond4_iff i).mpr hi'
  have h5 := (cond5_iff i).mpr hi'
  have h6 := (cond6_iff i).mpr hi'
  have h7 := mt (cond7_iff i).mp (by omega)
  have hoff0 := off19_eq i
  have hoff1 := off23_eq i
  have hoff2 := off27_eq i
  have hoff3 := off31_eq i
  iintro ⟨⟨⟨H2, H3, H4, H5, H6, H7⟩, HW, ⟨⟨%f0, Hf0⟩, ⟨%f1, Hf1⟩, ⟨%f2, Hf2⟩, ⟨%f3, Hf3⟩⟩, ⟨Hh0, Hh1, Hh2, Hh3⟩, ⟨⟨%e0, Hu0, Ho0⟩, ⟨%e1, Hu1, Ho1⟩, ⟨%e2, Hu2, Ho2⟩, ⟨%e3, Hu3, Ho3⟩⟩, ⟨Hv0, Hv1, Hv2, Hv3⟩⟩, Hk⟩
  sl_exec
  sl_step
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HW]; · iexists _; iexact HW
  isplitl [Hf0 Hf1 Hf2 Hf3]
  · isplitl [Hf0]; · iapply (flI_of c XA (Ring.sl 2 (i 0).val) (Ring.bk 8 ((i 0).val + 2)) 0) $$ Hf0; ipureintro; exact ⟨rfl, rfl⟩
    isplitl [Hf1]; · iapply (flI_of c XA (Ring.sl 2 (i 0).val) (Ring.bk 8 ((i 0).val + 2)) 1) $$ Hf1; ipureintro; exact ⟨rfl, rfl⟩
    isplitl [Hf2]; · iapply (flI_of c XA (Ring.sl 2 (i 0).val) (Ring.bk 8 ((i 0).val + 2)) 2) $$ Hf2; ipureintro; exact ⟨rfl, rfl⟩
    iapply (flI_of c XA (Ring.sl 2 (i 0).val) (Ring.bk 8 ((i 0).val + 2)) 3) $$ Hf3; ipureintro; exact ⟨rfl, rfl⟩
  isplitl [Hf0_src Hf1_src Hf2_src Hf3_src]
  · isplitl [Hf0_src]; · iexact Hf0_src
    isplitl [Hf1_src]; · iexact Hf1_src
    isplitl [Hf2_src]; · iexact Hf2_src
    iexact Hf3_src
  · isplitl [Ho0]; · iapply (flO_of c OA (Ring.sl 2 (i 0).val) (Ring.bk 8 (i 0).val) 0) $$ Ho0; ipureintro; refine ⟨rfl, ?_⟩; sl_unfold_run_names; rw [stored_part0]; exact part_words (Ring.sl 2 (i 0).val) 0 (hoff0) _ _ _ _ _ _ _ _ _ _
    isplitl [Ho1]; · iapply (flO_of c OA (Ring.sl 2 (i 0).val) (Ring.bk 8 (i 0).val) 1) $$ Ho1; ipureintro; refine ⟨rfl, ?_⟩; sl_unfold_run_names; exact part_words (Ring.sl 2 (i 0).val) 1 (hoff1) _ _ _ _ _ _ _ _ _ _
    isplitl [Ho2]; · iapply (flO_of c OA (Ring.sl 2 (i 0).val) (Ring.bk 8 (i 0).val) 2) $$ Ho2; ipureintro; refine ⟨rfl, ?_⟩; sl_unfold_run_names; rw [stored_part2]; exact part_words (Ring.sl 2 (i 0).val) 2 (hoff2) _ _ _ _ _ _ _ _ _ _
    iapply (flO_of c OA (Ring.sl 2 (i 0).val) (Ring.bk 8 (i 0).val) 3) $$ Ho3; ipureintro; refine ⟨rfl, ?_⟩; sl_unfold_run_names; rw [stored_part3]; exact part_words (Ring.sl 2 (i 0).val) 3 (hoff3) _ _ _ _ _ _ _ _ _ _

/-- At the first point the slots and blocks the body names are the first ones. -/
@[sl_canon] theorem sl_first (i : grid0.Coords) (h : (i 0).val = 0) : Ring.sl 2 (i 0).val = 0 := by rw [h]; rfl
@[sl_canon] theorem bk_first (i : grid0.Coords) (h : (i 0).val = 0) : Ring.bk 8 (i 0).val = 0 := by rw [h]; rfl
@[sl_canon] theorem bk_first' (i : grid0.Coords) (h : (i 0).val = 0) : Ring.bk 8 ((i 0).val + 2) = 2 := by rw [h]; rfl

/-- The first point: the tokens of the first two points are sent for before any are awaited. -/
theorem runFirst (hi : (i 0).val = 0) (g2 g3 g4 g5 g6 g7) (W : Waits sig Unit) (Q : PUnit → sProp 𝕄) :
    iprop((winsP c a2 a3 a4 a5 a6 a7 g2 g3 g4 g5 g6 g7 ∗ owes (c : Thread nD τ) 0 W
        ∗ inFree c 0 ∗ inFree c 1 ∗ xhome c XA 0 ∗ xhome c XA 1 ∗ xhome c XA 2 ∗ outFree c 0 ∗ ofresh c OA 0)
      ∗ ((winsP c a2 a3 a4 a5 a6 a7 g2 g3 g4 g5 g6 g7 ∗ (∃ W, owes (c : Thread nD τ) 0 W)
        ∗ inP c XA 0 2 ∗ inP c XA 1 1 ∗ xhome c XA 0 ∗ outP c OA 0 0 (outW c XA a2 a3 a4 a5 a6 a7 g2 g3 g4 g5 g6 g7 (0))) -∗ Q PUnit.unit))
      ⊢ wp frame (wpE (defs₀ (F := F)) 𝒱₀ (c : Thread nD τ) none) Set.univ (bodyG i a2 ha2 a3 ha3 a4 ha4 a5 ha5 a6 ha6 a7 ha7) Q := by
  have hi' : (i 0).val + 2 < 8 := by omega
  have h1 := (cond1_iff i).mpr hi
  have h2 := mt (cond2_iff i).mp (by omega)
  have h3 := (cond3_iff i).mpr hi'
  have h4 := (cond4_iff i).mpr hi'
  have h5 := (cond5_iff i).mpr hi'
  have h6 := (cond6_iff i).mpr hi'
  have h7 := mt (cond7_iff i).mp (by omega)
  have hoff0 : k0_off19 i = slotOff 0 0 := by rw [off19_eq, sl_first i hi]
  letI : ClosedOff (k0_off19 i) := ⟨slotOff 0 0, hoff0⟩
  have hoff1 : k0_off23 i = slotOff 0 1 := by rw [off23_eq, sl_first i hi]
  letI : ClosedOff (k0_off23 i) := ⟨slotOff 0 1, hoff1⟩
  have hoff2 : k0_off27 i = slotOff 0 2 := by rw [off27_eq, sl_first i hi]
  letI : ClosedOff (k0_off27 i) := ⟨slotOff 0 2, hoff2⟩
  have hoff3 : k0_off31 i = slotOff 0 3 := by rw [off31_eq, sl_first i hi]
  letI : ClosedOff (k0_off31 i) := ⟨slotOff 0 3, hoff3⟩
  iintro ⟨⟨⟨H2, H3, H4, H5, H6, H7⟩, HW, ⟨⟨%f0, Hs0, Hf0⟩, ⟨%f1, Hs1, Hf1⟩, ⟨%f2, Hs2, Hf2⟩, ⟨%f3, Hs3, Hf3⟩⟩, ⟨⟨%f4, Hs4, Hf4⟩, ⟨%f5, Hs5, Hf5⟩, ⟨%f6, Hs6, Hf6⟩, ⟨%f7, Hs7, Hf7⟩⟩, ⟨Hh0, Hh1, Hh2, Hh3⟩, ⟨Hh4, Hh5, Hh6, Hh7⟩, ⟨Hh8, Hh9, Hh10, Hh11⟩, ⟨⟨%e0, Hu0, Ho0⟩, ⟨%e1, Hu1, Ho1⟩, ⟨%e2, Hu2, Ho2⟩, ⟨%e3, Hu3, Ho3⟩⟩, ⟨Hv0, Hv1, Hv2, Hv3⟩⟩, Hk⟩
  sl_exec
  sl_step
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HW]; · iexists _; iexact HW
  isplitl [Hf0 Hf1 Hf2 Hf3]
  · isplitl [Hf0]; · iapply (flI_of c XA (0) (2) 0) $$ Hf0; ipureintro; exact ⟨rfl, rfl⟩
    isplitl [Hf1]; · iapply (flI_of c XA (0) (2) 1) $$ Hf1; ipureintro; exact ⟨rfl, rfl⟩
    isplitl [Hf2]; · iapply (flI_of c XA (0) (2) 2) $$ Hf2; ipureintro; exact ⟨rfl, rfl⟩
    iapply (flI_of c XA (0) (2) 3) $$ Hf3; ipureintro; exact ⟨rfl, rfl⟩
  isplitl [Hf4 Hf5 Hf6 Hf7]
  · isplitl [Hf4]; · iapply (flI_of c XA (1) (1) 0) $$ Hf4; ipureintro; exact ⟨rfl, rfl⟩
    isplitl [Hf5]; · iapply (flI_of c XA (1) (1) 1) $$ Hf5; ipureintro; exact ⟨rfl, rfl⟩
    isplitl [Hf6]; · iapply (flI_of c XA (1) (1) 2) $$ Hf6; ipureintro; exact ⟨rfl, rfl⟩
    iapply (flI_of c XA (1) (1) 3) $$ Hf7; ipureintro; exact ⟨rfl, rfl⟩
  isplitl [Hh0 Hh1 Hh2 Hh3]
  · isplitl [Hh0]; · iexact Hh0
    isplitl [Hh1]; · iexact Hh1
    isplitl [Hh2]; · iexact Hh2
    iexact Hh3
  · isplitl [Ho0]; · iapply (flO_of c OA (0) (0) 0) $$ Ho0; ipureintro; refine ⟨rfl, ?_⟩; sl_unfold_run_names; rw [stored_part0]; exact part_words (0) 0 (hoff0) _ _ _ _ _ _ _ _ _ _
    isplitl [Ho1]; · iapply (flO_of c OA (0) (0) 1) $$ Ho1; ipureintro; refine ⟨rfl, ?_⟩; sl_unfold_run_names; exact part_words (0) 1 (hoff1) _ _ _ _ _ _ _ _ _ _
    isplitl [Ho2]; · iapply (flO_of c OA (0) (0) 2) $$ Ho2; ipureintro; refine ⟨rfl, ?_⟩; sl_unfold_run_names; rw [stored_part2]; exact part_words (0) 2 (hoff2) _ _ _ _ _ _ _ _ _ _
    iapply (flO_of c OA (0) (0) 3) $$ Ho3; ipureintro; refine ⟨rfl, ?_⟩; sl_unfold_run_names; rw [stored_part3]; exact part_words (0) 3 (hoff3) _ _ _ _ _ _ _ _ _ _
end

end Cert.KernelIdeal

end

end
-- ==== Proof.RunMid.lean ====
/- The body at its middle points. -/
module

public import proofs.«01_k».proof.Proof.States

@[expose] public section

set_option maxRecDepth 16384
set_option maxHeartbeats 2000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (XA : Buf (Elt F) (xM.view.loc (c : Thread nD τ))) (OA : Buf (Elt F) (oM.view.loc (c : Thread nD τ)))
  (i : grid0.Coords)
  (a2 : Memref sig .tc .vmem S768x8 .f32) (ha2 : a2.IsWhole) (a3 : Memref sig .tc .vmem S1x8 .f32) (ha3 : a3.IsWhole)
  (a4 : Memref sig .tc .vmem S8x32 .f32) (ha4 : a4.IsWhole) (a5 : Memref sig .tc .vmem S1x32 .f32) (ha5 : a5.IsWhole)
  (a6 : Memref sig .tc .vmem S32x768 .f32) (ha6 : a6.IsWhole) (a7 : Memref sig .tc .vmem S1x768 .f32) (ha7 : a7.IsWhole)

/-- A middle point: the results of two points ago are awaited, and the tokens of two points on are sent for. -/
theorem runMid (hi : 2 ≤ (i 0).val) (hi' : (i 0).val + 2 < 8) (y : Fin 4 → Part F) (g2 g3 g4 g5 g6 g7) (W : Waits sig Unit) (Q : PUnit → sProp 𝕄) :
    iprop((winsP c a2 a3 a4 a5 a6 a7 g2 g3 g4 g5 g6 g7 ∗ owes (c : Thread nD τ) 0 W
        ∗ inP c XA (Ring.sl 2 (i 0).val) (Ring.bk 8 (i 0).val) ∗ xhome c XA (Ring.bk 8 ((i 0).val + 2)) ∗ outP c OA (Ring.sl 2 (i 0).val) (Ring.bk 8 ((i 0).val - 2)) y ∗ ofresh c OA (Ring.bk 8 (i 0).val))
      ∗ ((winsP c a2 a3 a4 a5 a6 a7 g2 g3 g4 g5 g6 g7 ∗ (∃ W, owes (c : Thread nD τ) 0 W)
        ∗ inP c XA (Ring.sl 2 (i 0).val) (Ring.bk 8 ((i 0).val + 2)) ∗ xhome c XA (Ring.bk 8 (i 0).val) ∗ outP c OA (Ring.sl 2 (i 0).val) (Ring.bk 8 (i 0).val) (outW c XA a2 a3 a4 a5 a6 a7 g2 g3 g4 g5 g6 g7 (Ring.bk 8 (i 0).val)) ∗ odone c OA (Ring.bk 8 ((i 0).val - 2)) y) -∗ Q PUnit.unit))
      ⊢ wp frame (wpE (defs₀ (F := F)) 𝒱₀ (c : Thread nD τ) none) Set.univ (bodyG i a2 ha2 a3 ha3 a4 ha4 a5 ha5 a6 ha6 a7 ha7) Q := by
  have h1 := mt (cond1_iff i).mp (by omega)
  have h2 := (cond2_iff i).mpr (by omega)
  have h3 := (cond3_iff i).mpr hi'
  have h4 := (cond4_iff i).mpr hi'
  have h5 := (cond5_iff i).mpr hi'
  have h6 := (cond6_iff i).mpr hi'
  have h7 := mt (cond7_iff i).mp (by omega)
  have hoff0 := off19_eq i
  have hoff1 := off23_eq i
  have hoff2 := off27_eq i
  have hoff3 := off31_eq i
  iintro ⟨⟨⟨H2, H3, H4, H5, H6, H7⟩, HW, ⟨⟨%f0, Hf0⟩, ⟨%f1, Hf1⟩, ⟨%f2, Hf2⟩, ⟨%f3, Hf3⟩⟩, ⟨Hh0, Hh1, Hh2, Hh3⟩, ⟨⟨%e0, Ho0⟩, ⟨%e1, Ho1⟩, ⟨%e2, Ho2⟩, ⟨%e3, Ho3⟩⟩, ⟨Hv0, Hv1, Hv2, Hv3⟩⟩, Hk⟩
  sl_exec
  sl_step
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HW]; · iexists _; iexact HW
  isplitl [Hf0 Hf1 Hf2 Hf3]
  · isplitl [Hf0]; · iapply (flI_of c XA (Ring.sl 2 (i 0).val) (Ring.bk 8 ((i 0).val + 2)) 0) $$ Hf0; ipureintro; exact ⟨rfl, rfl⟩
    isplitl [Hf1]; · iapply (flI_of c XA (Ring.sl 2 (i 0).val) (Ring.bk 8 ((i 0).val + 2)) 1) $$ Hf1; ipureintro; exact ⟨rfl, rfl⟩
    isplitl [Hf2]; · iapply (flI_of c XA (Ring.sl 2 (i 0).val) (Ring.bk 8 ((i 0).val + 2)) 2) $$ Hf2; ipureintro; exact ⟨rfl, rfl⟩
    iapply (flI_of c XA (Ring.sl 2 (i 0).val) (Ring.bk 8 ((i 0).val + 2)) 3) $$ Hf3; ipureintro; exact ⟨rfl, rfl⟩
  isplitl [Hf0_src Hf1_src Hf2_src Hf3_src]
  · isplitl [Hf0_src]; · iexact Hf0_src
    isplitl [Hf1_src]; · iexact Hf1_src
    isplitl [Hf2_src]; · iexact Hf2_src
    iexact Hf3_src
  isplitl [Ho0 Ho1 Ho2 Ho3]
  · isplitl [Ho0]; · iapply (flO_of c OA (Ring.sl 2 (i 0).val) (Ring.bk 8 (i 0).val) 0) $$ Ho0; ipureintro; refine ⟨rfl, ?_⟩; sl_unfold_run_names; rw [stored_part0]; exact part_words (Ring.sl 2 (i 0).val) 0 (hoff0) _ _ _ _ _ _ _ _ _ _
    isplitl [Ho1]; · iapply (flO_of c OA (Ring.sl 2 (i 0).val) (Ring.bk 8 (i 0).val) 1) $$ Ho1; ipureintro; refine ⟨rfl, ?_⟩; sl_unfold_run_names; exact part_words (Ring.sl 2 (i 0).val) 1 (hoff1) _ _ _ _ _ _ _ _ _ _
    isplitl [Ho2]; · iapply (flO_of c OA (Ring.sl 2 (i 0).val) (Ring.bk 8 (i 0).val) 2) $$ Ho2; ipureintro; refine ⟨rfl, ?_⟩; sl_unfold_run_names; rw [stored_part2]; exact part_words (Ring.sl 2 (i 0).val) 2 (hoff2) _ _ _ _ _ _ _ _ _ _
    iapply (flO_of c OA (Ring.sl 2 (i 0).val) (Ring.bk 8 (i 0).val) 3) $$ Ho3; ipureintro; refine ⟨rfl, ?_⟩; sl_unfold_run_names; rw [stored_part3]; exact part_words (Ring.sl 2 (i 0).val) 3 (hoff3) _ _ _ _ _ _ _ _ _ _
  · isplitl [Ho0_dst]; · iexact Ho0_dst
    isplitl [Ho1_dst]; · iexact Ho1_dst
    isplitl [Ho2_dst]; · iexact Ho2_dst
    iexact Ho3_dst
end

end Cert.KernelIdeal

end

end
-- ==== Proof.RunLast.lean ====
/- The body at its last two points. -/
module

public import proofs.«01_k».proof.Proof.States

@[expose] public section

set_option maxRecDepth 16384
set_option maxHeartbeats 2000000

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (XA : Buf (Elt F) (xM.view.loc (c : Thread nD τ))) (OA : Buf (Elt F) (oM.view.loc (c : Thread nD τ)))
  (i : grid0.Coords)
  (a2 : Memref sig .tc .vmem S768x8 .f32) (ha2 : a2.IsWhole) (a3 : Memref sig .tc .vmem S1x8 .f32) (ha3 : a3.IsWhole)
  (a4 : Memref sig .tc .vmem S8x32 .f32) (ha4 : a4.IsWhole) (a5 : Memref sig .tc .vmem S1x32 .f32) (ha5 : a5.IsWhole)
  (a6 : Memref sig .tc .vmem S32x768 .f32) (ha6 : a6.IsWhole) (a7 : Memref sig .tc .vmem S1x768 .f32) (ha7 : a7.IsWhole)

/-- The last point but one: no tokens are left to send for. -/
theorem runLate (hi : (i 0).val = 6) (y : Fin 4 → Part F) (g2 g3 g4 g5 g6 g7) (W : Waits sig Unit) (Q : PUnit → sProp 𝕄) :
    iprop((winsP c a2 a3 a4 a5 a6 a7 g2 g3 g4 g5 g6 g7 ∗ owes (c : Thread nD τ) 0 W
        ∗ inP c XA (Ring.sl 2 (i 0).val) (Ring.bk 8 (i 0).val) ∗ outP c OA (Ring.sl 2 (i 0).val) (Ring.bk 8 ((i 0).val - 2)) y ∗ ofresh c OA (Ring.bk 8 (i 0).val))
      ∗ ((winsP c a2 a3 a4 a5 a6 a7 g2 g3 g4 g5 g6 g7 ∗ (∃ W, owes (c : Thread nD τ) 0 W)
        ∗ inFree c (Ring.sl 2 (i 0).val) ∗ xhome c XA (Ring.bk 8 (i 0).val) ∗ outP c OA (Ring.sl 2 (i 0).val) (Ring.bk 8 (i 0).val) (outW c XA a2 a3 a4 a5 a6 a7 g2 g3 g4 g5 g6 g7 (Ring.bk 8 (i 0).val)) ∗ odone c OA (Ring.bk 8 ((i 0).val - 2)) y) -∗ Q PUnit.unit))
      ⊢ wp frame (wpE (defs₀ (F := F)) 𝒱₀ (c : Thread nD τ) none) Set.univ (bodyG i a2 ha2 a3 ha3 a4 ha4 a5 ha5 a6 ha6 a7 ha7) Q := by
  have h1 := mt (cond1_iff i).mp (by omega)
  have h2 := (cond2_iff i).mpr (by omega)
  have h3 := mt (cond3_iff i).mp (by omega)
  have h4 := mt (cond4_iff i).mp (by omega)
  have h5 := mt (cond5_iff i).mp (by omega)
  have h6 := mt (cond6_iff i).mp (by omega)
  have h7 := mt (cond7_iff i).mp (by omega)
  have hoff0 := off19_eq i
  have hoff1 := off23_eq i
  have hoff2 := off27_eq i
  have hoff3 := off31_eq i
  iintro ⟨⟨⟨H2, H3, H4, H5, H6, H7⟩, HW, ⟨⟨%f0, Hf0⟩, ⟨%f1, Hf1⟩, ⟨%f2, Hf2⟩, ⟨%f3, Hf3⟩⟩, ⟨⟨%e0, Ho0⟩, ⟨%e1, Ho1⟩, ⟨%e2, Ho2⟩, ⟨%e3, Ho3⟩⟩, ⟨Hv0, Hv1, Hv2, Hv3⟩⟩, Hk⟩
  sl_exec
  sl_step
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HW]; · iexists _; iexact HW
  isplitl [Hf0_dst Hf0 Hf1_dst Hf1 Hf2_dst Hf2 Hf3_dst Hf3]
  · isplitl [Hf0_dst Hf0]; · iexists _; isplitl [Hf0_dst] <;> iassumption
    isplitl [Hf1_dst Hf1]; · iexists _; isplitl [Hf1_dst] <;> iassumption
    isplitl [Hf2_dst Hf2]; · iexists _; isplitl [Hf2_dst] <;> iassumption
    iexists _; isplitl [Hf3_dst] <;> iassumption
  isplitl [Hf0_src Hf1_src Hf2_src Hf3_src]
  · isplitl [Hf0_src]; · iexact Hf0_src
    isplitl [Hf1_src]; · iexact Hf1_src
    isplitl [Hf2_src]; · iexact Hf2_src
    iexact Hf3_src
  isplitl [Ho0 Ho1 Ho2 Ho3]
  · isplitl [Ho0]; · iapply (flO_of c OA (Ring.sl 2 (i 0).val) (Ring.bk 8 (i 0).val) 0) $$ Ho0; ipureintro; refine ⟨rfl, ?_⟩; sl_unfold_run_names; rw [stored_part0]; exact part_words (Ring.sl 2 (i 0).val) 0 (hoff0) _ _ _ _ _ _ _ _ _ _
    isplitl [Ho1]; · iapply (flO_of c OA (Ring.sl 2 (i 0).val) (Ring.bk 8 (i 0).val) 1) $$ Ho1; ipureintro; refine ⟨rfl, ?_⟩; sl_unfold_run_names; exact part_words (Ring.sl 2 (i 0).val) 1 (hoff1) _ _ _ _ _ _ _ _ _ _
    isplitl [Ho2]; · iapply (flO_of c OA (Ring.sl 2 (i 0).val) (Ring.bk 8 (i 0).val) 2) $$ Ho2; ipureintro; refine ⟨rfl, ?_⟩; sl_unfold_run_names; rw [stored_part2]; exact part_words (Ring.sl 2 (i 0).val) 2 (hoff2) _ _ _ _ _ _ _ _ _ _
    iapply (flO_of c OA (Ring.sl 2 (i 0).val) (Ring.bk 8 (i 0).val) 3) $$ Ho3; ipureintro; refine ⟨rfl, ?_⟩; sl_unfold_run_names; rw [stored_part3]; exact part_words (Ring.sl 2 (i 0).val) 3 (hoff3) _ _ _ _ _ _ _ _ _ _
  · isplitl [Ho0_dst]; · iexact Ho0_dst
    isplitl [Ho1_dst]; · iexact Ho1_dst
    isplitl [Ho2_dst]; · iexact Ho2_dst
    iexact Ho3_dst

/-- The last point: every result still on its way is awaited. -/
theorem runLast (hi : (i 0).val = 7) (y y' : Fin 4 → Part F) (g2 g3 g4 g5 g6 g7) (W : Waits sig Unit) (Q : PUnit → sProp 𝕄) :
    iprop((winsP c a2 a3 a4 a5 a6 a7 g2 g3 g4 g5 g6 g7 ∗ owes (c : Thread nD τ) 0 W
        ∗ inP c XA (Ring.sl 2 (i 0).val) (Ring.bk 8 (i 0).val) ∗ outP c OA (Ring.sl 2 (i 0).val) (Ring.bk 8 ((i 0).val - 2)) y ∗ outP c OA (Ring.sl 2 ((i 0).val + 1)) (Ring.bk 8 ((i 0).val - 1)) y' ∗ ofresh c OA (Ring.bk 8 (i 0).val))
      ∗ ((winsP c a2 a3 a4 a5 a6 a7 g2 g3 g4 g5 g6 g7 ∗ (∃ W, owes (c : Thread nD τ) 0 W)
        ∗ inFree c (Ring.sl 2 (i 0).val) ∗ xhome c XA (Ring.bk 8 (i 0).val) ∗ outFree c (Ring.sl 2 (i 0).val) ∗ outFree c (Ring.sl 2 ((i 0).val + 1)) ∗ odone c OA (Ring.bk 8 (i 0).val) (outW c XA a2 a3 a4 a5 a6 a7 g2 g3 g4 g5 g6 g7 (Ring.bk 8 (i 0).val)) ∗ odone c OA (Ring.bk 8 ((i 0).val - 2)) y ∗ odone c OA (Ring.bk 8 ((i 0).val - 1)) y') -∗ Q PUnit.unit))
      ⊢ wp frame (wpE (defs₀ (F := F)) 𝒱₀ (c : Thread nD τ) none) Set.univ (bodyG i a2 ha2 a3 ha3 a4 ha4 a5 ha5 a6 ha6 a7 ha7) Q := by
  have h1 := mt (cond1_iff i).mp (by omega)
  have h2 := (cond2_iff i).mpr (by omega)
  have h3 := mt (cond3_iff i).mp (by omega)
  have h4 := mt (cond4_iff i).mp (by omega)
  have h5 := mt (cond5_iff i).mp (by omega)
  have h6 := mt (cond6_iff i).mp (by omega)
  have h7 := (cond7_iff i).mpr hi
  have hoff0 := off19_eq i
  have hoff1 := off23_eq i
  have hoff2 := off27_eq i
  have hoff3 := off31_eq i
  iintro ⟨⟨⟨H2, H3, H4, H5, H6, H7⟩, HW, ⟨⟨%f0, Hf0⟩, ⟨%f1, Hf1⟩, ⟨%f2, Hf2⟩, ⟨%f3, Hf3⟩⟩, ⟨⟨%e0, Ho0⟩, ⟨%e1, Ho1⟩, ⟨%e2, Ho2⟩, ⟨%e3, Ho3⟩⟩, ⟨⟨%e4, Ho4⟩, ⟨%e5, Ho5⟩, ⟨%e6, Ho6⟩, ⟨%e7, Ho7⟩⟩, ⟨Hv0, Hv1, Hv2, Hv3⟩⟩, Hk⟩
  sl_exec
  sl_step
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HW]; · iexists _; iexact HW
  isplitl [Hf0_dst Hf0 Hf1_dst Hf1 Hf2_dst Hf2 Hf3_dst Hf3]
  · isplitl [Hf0_dst Hf0]; · iexists _; isplitl [Hf0_dst] <;> iassumption
    isplitl [Hf1_dst Hf1]; · iexists _; isplitl [Hf1_dst] <;> iassumption
    isplitl [Hf2_dst Hf2]; · iexists _; isplitl [Hf2_dst] <;> iassumption
    iexists _; isplitl [Hf3_dst] <;> iassumption
  isplitl [Hf0_src Hf1_src Hf2_src Hf3_src]
  · isplitl [Hf0_src]; · iexact Hf0_src
    isplitl [Hf1_src]; · iexact Hf1_src
    isplitl [Hf2_src]; · iexact Hf2_src
    iexact Hf3_src
  isplitl [Ho0_src Ho0 Ho1_src Ho1 Ho2_src Ho2 Ho3_src Ho3]
  · isplitl [Ho0_src Ho0]; · iapply (outFree_of c (Ring.sl 2 (i 0).val) 0) $$ Ho0_src; iexact Ho0
    isplitl [Ho1_src Ho1]; · iapply (outFree_of c (Ring.sl 2 (i 0).val) 1) $$ Ho1_src; iexact Ho1
    isplitl [Ho2_src Ho2]; · iapply (outFree_of c (Ring.sl 2 (i 0).val) 2) $$ Ho2_src; iexact Ho2
    iapply (outFree_of c (Ring.sl 2 (i 0).val) 3) $$ Ho3_src; iexact Ho3
  isplitl [Ho4_src Ho4 Ho5_src Ho5 Ho6_src Ho6 Ho7_src Ho7]
  · isplitl [Ho4_src Ho4]; · iexists _; isplitl [Ho4_src] <;> iassumption
    isplitl [Ho5_src Ho5]; · iexists _; isplitl [Ho5_src] <;> iassumption
    isplitl [Ho6_src Ho6]; · iexists _; isplitl [Ho6_src] <;> iassumption
    iexists _; isplitl [Ho7_src] <;> iassumption
  isplitl [Hv0 Hv1 Hv2 Hv3]
  · isplitl [Hv0]; · iapply (ohP_of c OA (Ring.bk 8 (i 0).val) 0) $$ Hv0; ipureintro; sl_unfold_run_names; rw [stored_part0]; exact part_words (Ring.sl 2 (i 0).val) 0 (hoff0) _ _ _ _ _ _ _ _ _ _
    isplitl [Hv1]; · iapply (ohP_of c OA (Ring.bk 8 (i 0).val) 1) $$ Hv1; ipureintro; sl_unfold_run_names; exact part_words (Ring.sl 2 (i 0).val) 1 (hoff1) _ _ _ _ _ _ _ _ _ _
    isplitl [Hv2]; · iapply (ohP_of c OA (Ring.bk 8 (i 0).val) 2) $$ Hv2; ipureintro; sl_unfold_run_names; rw [stored_part2]; exact part_words (Ring.sl 2 (i 0).val) 2 (hoff2) _ _ _ _ _ _ _ _ _ _
    iapply (ohP_of c OA (Ring.bk 8 (i 0).val) 3) $$ Hv3; ipureintro; sl_unfold_run_names; rw [stored_part3]; exact part_words (Ring.sl 2 (i 0).val) 3 (hoff3) _ _ _ _ _ _ _ _ _ _
  isplitl [Ho0_dst Ho1_dst Ho2_dst Ho3_dst]
  · isplitl [Ho0_dst]; · iexact Ho0_dst
    isplitl [Ho1_dst]; · iexact Ho1_dst
    isplitl [Ho2_dst]; · iexact Ho2_dst
    iexact Ho3_dst
  · isplitl [Ho4_dst]; · iexact Ho4_dst
    isplitl [Ho5_dst]; · iexact Ho5_dst
    isplitl [Ho6_dst]; · iexact Ho6_dst
    iexact Ho7_dst
end

end Cert.KernelIdeal

end

end
-- ==== Proof.Step.lean ====
/- One point takes what is held before it to what is held after it: for each kind of point, what its body takes of the
   invariant and how what it gives back closes the next one. -/
module

public import proofs.«01_k».proof.Proof.Inv
public import proofs.«01_k».proof.Proof.RunFirst
public import proofs.«01_k».proof.Proof.RunMid
public import proofs.«01_k».proof.Proof.RunLast

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (XA : Buf (Elt F) (xM.view.loc (c : Thread nD τ))) (OA : Buf (Elt F) (oM.view.loc (c : Thread nD τ)))
  (Y : Fin 8 → Fin 4 → Part F)

theorem inv_succ (t : ℕ) : inv c XA OA Y (t + 1) = iprop(inSt c XA (t + 1) (t + 1) ∗ inSt c XA (t + 1) (t + 2)
    ∗ outSt c OA Y (t + 1) (t + 1) ∗ outSt c OA Y (t + 1) (t + 2)
    ∗ bigSep Finset.univ (xSt c XA (t + 1)) ∗ bigSep Finset.univ (oSt c OA Y (t + 1))) := rfl
theorem inSt_keep {t : ℕ} (h : 1 ≤ t) : inSt c XA t (t + 1) = inSt c XA (t + 1) (t + 1) := by
  unfold inSt
  by_cases hn : t + 1 < 8
  · rw [if_pos ⟨h, hn⟩, if_pos ⟨by omega, hn⟩]
  · rw [if_neg (by omega), if_neg (by omega)]
theorem outSt_keep {t : ℕ} (h : t < 7) : outSt c OA Y t (t + 1) = outSt c OA Y (t + 1) (t + 1) := by
  unfold outSt
  by_cases hn : 2 ≤ t + 1
  · rw [if_pos ⟨hn, by omega⟩, if_pos ⟨hn, by omega⟩]
  · rw [if_neg (by omega), if_neg (by omega)]
/-- The slot of a point is the slot of the one after the next: what it holds then. -/
theorem inSt_next {t : ℕ} (h : t + 2 < 8) : inSt c XA (t + 1) (t + 2) = inP c XA (Ring.sl 2 t) (Ring.bk 8 (t + 2)) := by
  rw [inSt_on c XA (by omega) h, Ring.sl_add]
theorem inSt_end {t : ℕ} (h : 6 ≤ t) : inSt c XA (t + 1) (t + 2) = inFree c (Ring.sl 2 t) := by
  rw [inSt_off c XA (.inr (by omega)), Ring.sl_add]
theorem outSt_next {t : ℕ} (h : t < 7) : outSt c OA Y (t + 1) (t + 2) = outP c OA (Ring.sl 2 t) (Ring.bk 8 t) (Y (Ring.bk 8 t)) := by
  rw [outSt_on c OA Y (by omega) (by omega), Ring.sl_add, Nat.add_sub_cancel]

theorem inv_mid {t : ℕ} (ht : 2 ≤ t) (ht' : t + 2 < 8) :
    inv c XA OA Y t ⊢ iprop((inP c XA (Ring.sl 2 t) (Ring.bk 8 t) ∗ xhome c XA (Ring.bk 8 (t + 2))
        ∗ outP c OA (Ring.sl 2 t) (Ring.bk 8 (t - 2)) (Y (Ring.bk 8 (t - 2))) ∗ ofresh c OA (Ring.bk 8 t))
      ∗ ((inP c XA (Ring.sl 2 t) (Ring.bk 8 (t + 2)) ∗ xhome c XA (Ring.bk 8 t) ∗ outP c OA (Ring.sl 2 t) (Ring.bk 8 t) (Y (Ring.bk 8 t))
        ∗ odone c OA (Ring.bk 8 (t - 2)) (Y (Ring.bk 8 (t - 2)))) -∗ inv c XA OA Y (t + 1))) := by
  rw [inv_succ, inSt_next c XA ht', outSt_next c OA Y (by omega), ← inSt_keep c XA (by omega), ← outSt_keep c OA Y (by omega)]
  unfold inv
  rw [inSt_on c XA (n := t) (by omega) (by omega), outSt_on c OA Y (n := t) (by omega) (by omega)]
  iintro ⟨Hi, Hi', Ho, Ho', Hx, Hr⟩
  ihave HX := (xSt_step c XA (by omega) ht') $$ Hx
  icases HX with ⟨Hh, HX⟩
  ihave HR := (oSt_step c OA Y (by omega) (by omega)) $$ Hr
  icases HR with ⟨Hf, HR⟩
  isplitl [Hi Hh Ho Hf]
  · isplitl [Hi]; · iexact Hi
    isplitl [Hh]; · iexact Hh
    isplitl [Ho]; · iexact Ho
    iexact Hf
  iintro ⟨Hi, Hh, Ho, Hd⟩
  isplitl [Hi']; · iexact Hi'
  isplitl [Hi]; · iexact Hi
  isplitl [Ho']; · iexact Ho'
  isplitl [Ho]; · iexact Ho
  isplitl [Hh HX]
  · iapply HX; iexact Hh
  iapply HR; iexact Hd

theorem inv_second :
    inv c XA OA Y 1 ⊢ iprop((inP c XA (Ring.sl 2 1) (Ring.bk 8 1) ∗ xhome c XA (Ring.bk 8 (1 + 2))
        ∗ outFree c (Ring.sl 2 1) ∗ ofresh c OA (Ring.bk 8 1))
      ∗ ((inP c XA (Ring.sl 2 1) (Ring.bk 8 (1 + 2)) ∗ xhome c XA (Ring.bk 8 1) ∗ outP c OA (Ring.sl 2 1) (Ring.bk 8 1) (Y (Ring.bk 8 1)))
        -∗ inv c XA OA Y (1 + 1))) := by
  rw [inv_succ c XA OA Y 1, inSt_next c XA (t := 1) (by omega), outSt_next c OA Y (t := 1) (by omega), ← inSt_keep c XA (t := 1) (by omega), ← outSt_keep c OA Y (t := 1) (by omega)]
  unfold inv
  rw [inSt_on c XA (t := 1) (n := 1) (by omega) (by omega), outSt_off c OA Y (t := 1) (n := 1) (by omega)]
  iintro ⟨Hi, Hi', Ho, Ho', Hx, Hr⟩
  ihave HX := (xSt_step c XA (by omega) (by omega)) $$ Hx
  icases HX with ⟨Hh, HX⟩
  ihave HR := (oSt_first c OA Y (by omega)) $$ Hr
  icases HR with ⟨Hf, HR⟩
  isplitl [Hi Hh Ho Hf]
  · isplitl [Hi]; · iexact Hi
    isplitl [Hh]; · iexact Hh
    isplitl [Ho]; · iexact Ho
    iexact Hf
  iintro ⟨Hi, Hh, Ho⟩
  isplitl [Hi']; · iexact Hi'
  isplitl [Hi]; · iexact Hi
  isplitl [Ho']; · iexact Ho'
  isplitl [Ho]; · iexact Ho
  isplitl [Hh HX]
  · iapply HX; iexact Hh
  iexact HR

theorem inv_first :
    inv c XA OA Y 0 ⊢ iprop((inFree c 0 ∗ inFree c 1 ∗ xhome c XA 0 ∗ xhome c XA 1 ∗ xhome c XA 2 ∗ outFree c 0 ∗ ofresh c OA 0)
      ∗ ((inP c XA 0 2 ∗ inP c XA 1 1 ∗ xhome c XA 0 ∗ outP c OA 0 0 (Y 0)) -∗ inv c XA OA Y (0 + 1))) := by
  rw [inv_succ c XA OA Y 0, inSt_next c XA (t := 0) (by omega), outSt_next c OA Y (t := 0) (by omega), ← outSt_keep c OA Y (t := 0) (by omega),
    inSt_on c XA (t := 0 + 1) (n := 0 + 1) (by omega) (by omega)]
  unfold inv
  rw [inSt_off c XA (t := 0) (n := 0) (.inl rfl), inSt_off c XA (t := 0) (n := 0 + 1) (.inl rfl), outSt_off c OA Y (t := 0) (n := 0) (by omega)]
  iintro ⟨Hi, Hi', Ho, Ho', Hx, Hr⟩
  ihave HX := (xSt_first c XA) $$ Hx
  icases HX with ⟨⟨H0, H1, H2⟩, HX⟩
  ihave HR := (oSt_first c OA Y (by omega)) $$ Hr
  icases HR with ⟨Hf, HR⟩
  isplitl [Hi Hi' H0 H1 H2 Ho Hf]
  · isplitl [Hi]; · iexact Hi
    isplitl [Hi']; · iexact Hi'
    isplitl [H0]; · iexact H0
    isplitl [H1]; · iexact H1
    isplitl [H2]; · iexact H2
    isplitl [Ho]; · iexact Ho
    iexact Hf
  iintro ⟨Hi, Hi', Hh, Ho⟩
  isplitl [Hi']; · iexact Hi'
  isplitl [Hi]; · iexact Hi
  isplitl [Ho']; · iexact Ho'
  isplitl [Ho]; · iexact Ho
  isplitl [Hh HX]
  · iapply HX; iexact Hh
  iexact HR

theorem inv_late :
    inv c XA OA Y 6 ⊢ iprop((inP c XA (Ring.sl 2 6) (Ring.bk 8 6)
        ∗ outP c OA (Ring.sl 2 6) (Ring.bk 8 (6 - 2)) (Y (Ring.bk 8 (6 - 2))) ∗ ofresh c OA (Ring.bk 8 6))
      ∗ ((inFree c (Ring.sl 2 6) ∗ xhome c XA (Ring.bk 8 6) ∗ outP c OA (Ring.sl 2 6) (Ring.bk 8 6) (Y (Ring.bk 8 6))
        ∗ odone c OA (Ring.bk 8 (6 - 2)) (Y (Ring.bk 8 (6 - 2)))) -∗ inv c XA OA Y (6 + 1))) := by
  rw [inv_succ c XA OA Y 6, inSt_end c XA (t := 6) (by omega), outSt_next c OA Y (t := 6) (by omega), ← inSt_keep c XA (t := 6) (by omega), ← outSt_keep c OA Y (t := 6) (by omega)]
  unfold inv
  rw [inSt_on c XA (t := 6) (n := 6) (by omega) (by omega), outSt_on c OA Y (t := 6) (n := 6) (by omega) (by omega)]
  iintro ⟨Hi, Hi', Ho, Ho', Hx, Hr⟩
  ihave HX := (xSt_late c XA) $$ Hx
  ihave HR := (oSt_step c OA Y (by omega) (by omega)) $$ Hr
  icases HR with ⟨Hf, HR⟩
  isplitl [Hi Ho Hf]
  · isplitl [Hi]; · iexact Hi
    isplitl [Ho]; · iexact Ho
    iexact Hf
  iintro ⟨Hi, Hh, Ho, Hd⟩
  isplitl [Hi']; · iexact Hi'
  isplitl [Hi]; · iexact Hi
  isplitl [Ho']; · iexact Ho'
  isplitl [Ho]; · iexact Ho
  isplitl [Hh HX]
  · iapply HX; iexact Hh
  iapply HR; iexact Hd

theorem inv_last :
    inv c XA OA Y 7 ⊢ iprop((inP c XA (Ring.sl 2 7) (Ring.bk 8 7) ∗ outP c OA (Ring.sl 2 7) (Ring.bk 8 (7 - 2)) (Y (Ring.bk 8 (7 - 2)))
        ∗ outP c OA (Ring.sl 2 (7 + 1)) (Ring.bk 8 (7 - 1)) (Y (Ring.bk 8 (7 - 1))) ∗ ofresh c OA (Ring.bk 8 7))
      ∗ ((inFree c (Ring.sl 2 7) ∗ xhome c XA (Ring.bk 8 7) ∗ outFree c (Ring.sl 2 7) ∗ outFree c (Ring.sl 2 (7 + 1))
        ∗ odone c OA (Ring.bk 8 7) (Y (Ring.bk 8 7)) ∗ odone c OA (Ring.bk 8 (7 - 2)) (Y (Ring.bk 8 (7 - 2)))
        ∗ odone c OA (Ring.bk 8 (7 - 1)) (Y (Ring.bk 8 (7 - 1)))) -∗ inv c XA OA Y (7 + 1))) := by
  rw [inv_succ c XA OA Y 7, inSt_end c XA (t := 7) (by omega), ← inSt_keep c XA (t := 7) (by omega), outSt_off c OA Y (t := 7 + 1) (n := 7 + 1) (by omega),
    outSt_off c OA Y (t := 7 + 1) (n := 7 + 2) (by omega), Ring.sl_add 2 7]
  unfold inv
  rw [inSt_on c XA (t := 7) (n := 7) (by omega) (by omega), outSt_on c OA Y (t := 7) (n := 7) (by omega) (by omega), outSt_on c OA Y (t := 7) (n := 7 + 1) (by omega) (by omega)]
  iintro ⟨Hi, Hi', Ho, Ho', Hx, Hr⟩
  ihave HX := (xSt_last c XA) $$ Hx
  ihave HR := (oSt_last c OA Y) $$ Hr
  icases HR with ⟨Hf, HR⟩
  isplitl [Hi Ho Ho' Hf]
  · isplitl [Hi]; · iexact Hi
    isplitl [Ho]; · iexact Ho
    isplitl [Ho']; · iexact Ho'
    iexact Hf
  iintro ⟨Hi, Hh, Ho, Ho', Hd, Hd5, Hd6⟩
  isplitl [Hi']; · iexact Hi'
  isplitl [Hi]; · iexact Hi
  isplitl [Ho']; · iexact Ho'
  isplitl [Ho]; · iexact Ho
  isplitl [Hh HX]
  · iapply HX; iexact Hh
  iapply HR
  isplitl [Hd]; · iexact Hd
  isplitl [Hd6]; · iexact Hd6
  iexact Hd5

variable (i : grid0.Coords)
  (a2 : Memref sig .tc .vmem S768x8 .f32) (ha2 : a2.IsWhole) (a3 : Memref sig .tc .vmem S1x8 .f32) (ha3 : a3.IsWhole)
  (a4 : Memref sig .tc .vmem S8x32 .f32) (ha4 : a4.IsWhole) (a5 : Memref sig .tc .vmem S1x32 .f32) (ha5 : a5.IsWhole)
  (a6 : Memref sig .tc .vmem S32x768 .f32) (ha6 : a6.IsWhole) (a7 : Memref sig .tc .vmem S1x768 .f32) (ha7 : a7.IsWhole)

/-- One point: from what is held before it to what is held after it, whatever the windows hold. -/
theorem step (g2 g3 g4 g5 g6 g7) (hY : outW c XA a2 a3 a4 a5 a6 a7 g2 g3 g4 g5 g6 g7 = Y) (W : Waits sig Unit) (Q : PUnit → sProp 𝕄) :
    iprop((winsP c a2 a3 a4 a5 a6 a7 g2 g3 g4 g5 g6 g7 ∗ owes (c : Thread nD τ) 0 W ∗ inv c XA OA Y (i 0).val)
      ∗ ((winsP c a2 a3 a4 a5 a6 a7 g2 g3 g4 g5 g6 g7 ∗ (∃ W, owes (c : Thread nD τ) 0 W) ∗ inv c XA OA Y ((i 0).val + 1)) -∗ Q PUnit.unit))
      ⊢ wp frame (wpE (defs₀ (F := F)) 𝒱₀ (c : Thread nD τ) none) Set.univ (bodyG i a2 ha2 a3 ha3 a4 ha4 a5 ha5 a6 ha6 a7 ha7) Q := by
  have run {Pre Post I I' Ws Wo Wo' G T : sProp 𝕄} (hs : I ⊢ iprop(Pre ∗ (Post -∗ I')))
      (hr : iprop((Ws ∗ Wo ∗ Pre) ∗ ((Ws ∗ Wo' ∗ Post) -∗ G)) ⊢ T) : iprop((Ws ∗ Wo ∗ I) ∗ ((Ws ∗ Wo' ∗ I') -∗ G)) ⊢ T := by
    refine BI.BIBase.Entails.trans ?_ hr
    iintro ⟨⟨Hw, Ho, Hi⟩, HQ⟩
    ihave HS := hs $$ Hi
    icases HS with ⟨Hp, HS⟩
    isplitl [Hw Ho Hp]
    · isplitl [Hw]; · iexact Hw
      isplitl [Ho]; · iexact Ho
      iexact Hp
    iintro ⟨Hw, Ho, Hp⟩
    iapply HQ
    isplitl [Hw]; · iexact Hw
    isplitl [Ho]; · iexact Ho
    iapply HS; iexact Hp
  have hlt : (i 0).val < 8 := (i 0).isLt
  by_cases h0 : (i 0).val = 0
  · have := runFirst c XA OA i a2 ha2 a3 ha3 a4 ha4 a5 ha5 a6 ha6 a7 ha7 h0 g2 g3 g4 g5 g6 g7 W Q
    rw [hY] at this; rw [h0]; exact run (inv_first c XA OA Y) this
  by_cases h1 : (i 0).val = 1
  · have := runSecond c XA OA i a2 ha2 a3 ha3 a4 ha4 a5 ha5 a6 ha6 a7 ha7 h1 g2 g3 g4 g5 g6 g7 W Q
    rw [hY, h1] at this; rw [h1]; exact run (inv_second c XA OA Y) this
  by_cases h6 : (i 0).val = 6
  · have := runLate c XA OA i a2 ha2 a3 ha3 a4 ha4 a5 ha5 a6 ha6 a7 ha7 h6 (Y (Ring.bk 8 ((i 0).val - 2))) g2 g3 g4 g5 g6 g7 W Q
    rw [hY, h6] at this; rw [h6]; exact run (inv_late c XA OA Y) this
  by_cases h7 : (i 0).val = 7
  · have := runLast c XA OA i a2 ha2 a3 ha3 a4 ha4 a5 ha5 a6 ha6 a7 ha7 h7 (Y (Ring.bk 8 ((i 0).val - 2))) (Y (Ring.bk 8 ((i 0).val - 1))) g2 g3 g4 g5 g6 g7 W Q
    rw [hY, h7] at this; rw [h7]; exact run (inv_last c XA OA Y) this
  have := runMid c XA OA i a2 ha2 a3 ha3 a4 ha4 a5 ha5 a6 ha6 a7 ha7 (by omega) (by omega) (Y (Ring.bk 8 ((i 0).val - 2))) g2 g3 g4 g5 g6 g7 W Q
  rw [hY] at this
  exact run (inv_mid c XA OA Y (by omega) (by omega)) this

end

end Cert.KernelIdeal

end
-- ==== Proof.Split.lean ====
/- The two arrays are their blocks and the two row buffers their slots, part by part: what the launch hands over whole is
   what the invariant holds before the first point, and what it holds after the last is whole again. -/
module

public import proofs.«01_k».proof.Proof.Inv

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The elements of a part -/

abbrev blkSet (p : Fin 8 × Fin 4) : Finset S32768x768.Idx :=
  (Rect.unit (s := S32768x768) (blkOff p.1 p.2) S1024x768.size (blkOff_inb p.1 p.2)).set
abbrev slotSet (p : Fin 2 × Fin 4) : Finset S2x4096x768.Idx :=
  (Rect.unit (s := S2x4096x768) (slotOff p.1 p.2) S1x1024x768.size (slotOff_inb p.1 p.2)).set

theorem mem_blkSet (p : Fin 8 × Fin 4) (j : S32768x768.Idx) :
    j ∈ blkSet p ↔ 4096 * p.1.val + 1024 * p.2.val ≤ (j 0).val ∧ (j 0).val < 4096 * p.1.val + 1024 * p.2.val + 1024 := by
  rw [Rect.mem_set_unit]
  have h1 : (j 1).val < 768 := (j 1).isLt
  constructor
  · intro H; exact H 0
  · intro H a; fin_cases a
    · exact H
    · show 0 ≤ (j 1).val ∧ (j 1).val < 0 + 768; omega
theorem mem_slotSet (p : Fin 2 × Fin 4) (j : S2x4096x768.Idx) :
    j ∈ slotSet p ↔ (j 0).val = p.1.val ∧ 1024 * p.2.val ≤ (j 1).val ∧ (j 1).val < 1024 * p.2.val + 1024 := by
  rw [Rect.mem_set_unit]
  have h2 : (j 2).val < 768 := (j 2).isLt
  constructor
  · intro H
    have a0 : p.1.val ≤ (j 0).val ∧ (j 0).val < p.1.val + 1 := H 0
    exact ⟨by omega, H 1⟩
  · intro ⟨H0, H1⟩ a; fin_cases a
    · show p.1.val ≤ (j 0).val ∧ (j 0).val < p.1.val + 1; omega
    · exact H1
    · show 0 ≤ (j 2).val ∧ (j 2).val < 0 + 768; omega
theorem blkSet_disjoint : ∀ p p', p ≠ p' → Disjoint (blkSet p) (blkSet p') := by
  intro p p' hne; rw [Finset.disjoint_left]; intro j hj hj'; rw [mem_blkSet] at hj hj'
  refine hne (Prod.ext (Fin.ext ?_) (Fin.ext ?_)) <;> (have := p.2.isLt; have := p'.2.isLt; omega)
theorem slotSet_disjoint : ∀ p p', p ≠ p' → Disjoint (slotSet p) (slotSet p') := by
  intro p p' hne; rw [Finset.disjoint_left]; intro j hj hj'; rw [mem_slotSet] at hj hj'
  refine hne (Prod.ext (Fin.ext ?_) (Fin.ext ?_)) <;> omega

/-- The block, the part and the row in it of a row of the array. -/
def rowBlk (r : Fin 32768) : Fin 8 := ⟨r.val / 4096, by omega⟩
def rowPart (r : Fin 32768) : Fin 4 := ⟨r.val % 4096 / 1024, by omega⟩
def rowIn (r : Fin 32768) : Fin 1024 := ⟨r.val % 1024, by omega⟩
/-- Where an element of the array lies in its part. -/
def rowIdx (j : S32768x768.Idx) : S1024x768.Idx := fun a => match a with
  | ⟨0, _⟩ => rowIn (j 0)
  | ⟨1, _⟩ => j 1

theorem blkSet_cover : (Finset.univ : Finset (Fin 8 × Fin 4)).biUnion blkSet = Finset.univ := by
  ext j; simp only [Finset.mem_biUnion, Finset.mem_univ, true_and, iff_true]
  refine ⟨(rowBlk (j 0), rowPart (j 0)), ?_⟩
  rw [mem_blkSet]
  show 4096 * ((j 0).val / 4096) + 1024 * ((j 0).val % 4096 / 1024) ≤ _ ∧ _ < 4096 * ((j 0).val / 4096) + 1024 * ((j 0).val % 4096 / 1024) + 1024
  omega
theorem slotSet_cover : (Finset.univ : Finset (Fin 2 × Fin 4)).biUnion slotSet = Finset.univ := by
  ext j; simp only [Finset.mem_biUnion, Finset.mem_univ, true_and, iff_true]
  have h1 : (j 1).val < 4096 := (j 1).isLt
  refine ⟨(j 0, ⟨(j 1).val / 1024, by omega⟩), ?_⟩
  rw [mem_slotSet]
  show (j 0).val = (j 0).val ∧ 1024 * ((j 1).val / 1024) ≤ _ ∧ _ < 1024 * ((j 1).val / 1024) + 1024
  omega

theorem xblk_set (n : Fin 8) (k : Fin 4) : (xblk n k).view.set = blkSet (n, k) := View.set_slice_whole _ _
theorem oblk_set (n : Fin 8) (k : Fin 4) : (oblk n k).view.set = blkSet (n, k) := View.set_slice_whole _ _
theorem xpart_set (s : Fin 2) (k : Fin 4) : (xpart s k).view.set = slotSet (s, k) := (View.set_reshape _ _).trans (View.set_slice_whole _ _)
theorem opart_set (s : Fin 2) (k : Fin 4) : (opart s k).view.set = slotSet (s, k) := (View.set_reshape _ _).trans (View.set_slice_whole _ _)

/-! ## Families over the parts -/

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_four (Φ : Fin 4 → sProp 𝕄) : bigSep Finset.univ Φ = four Φ :=
  bigSep_univ_eq_bigSepL [(0 : Fin 4), (1 : Fin 4), (2 : Fin 4), (3 : Fin 4)] (by decide) (by decide) Φ
theorem bigSep_parts {n : ℕ} (Φ : Fin n → Fin 4 → sProp 𝕄) :
    bigSep Finset.univ (fun p : Fin n × Fin 4 => Φ p.1 p.2) = bigSep Finset.univ fun s => four (Φ s) := by
  rw [BI.bigSep_univ_prod]; exact BI.bigSep_congr fun s _ => bigSep_four _
theorem parts_mono {n : ℕ} {Φ Ψ : Fin n × Fin 4 → sProp 𝕄} (h : ∀ p, Φ p ⊢ Ψ p) : bigSep Finset.univ Φ ⊢ bigSep Finset.univ Ψ :=
  BI.bigSep_mono fun p _ => h p

section
variable (c : Dev nD) (XA : Buf (Elt F) (xM.view.loc (c : Thread nD τ))) (OA : Buf (Elt F) (oM.view.loc (c : Thread nD τ)))
  (Y : Fin 8 → Fin 4 → Part F)

/-- The tokens whole are their blocks at home; the result whole is its blocks untouched. -/
theorem x_blocks : (((c : Thread nD τ).loc main_v0) ↦{fullShare} XA : sProp 𝕄) = bigSep Finset.univ (xhome c XA) := by
  rw [Ring.pointsTo_blocks (ℓ := (c : Thread nD τ).loc main_v0) blkSet blkSet_disjoint blkSet_cover]
  refine (BI.bigSep_congr fun p _ => ?_).trans (bigSep_parts fun n k => xhP c XA n k)
  exact congrArg (fun S => (_ ↦[S]{fullShare} XA : sProp 𝕄)) (xblk_set p.1 p.2).symm
theorem o_blocks : (((c : Thread nD τ).loc main_v12) ↦{fullShare} OA : sProp 𝕄) = bigSep Finset.univ (ofresh c OA) := by
  rw [Ring.pointsTo_blocks (ℓ := (c : Thread nD τ).loc main_v12) blkSet blkSet_disjoint blkSet_cover]
  refine (BI.bigSep_congr fun p _ => ?_).trans (bigSep_parts fun n k => ohP c n k OA)
  exact congrArg (fun S => (_ ↦[S]{fullShare} OA : sProp 𝕄)) (oblk_set p.1 p.2).symm

/-- The result, row by row, of the words of the parts. -/
def outBuf : Buf (Elt F) (oM.view.loc (c : Thread nD τ)) :=
  fun (j : S32768x768.Idx) => Y (rowBlk (j 0)) (rowPart (j 0)) (rowIdx j)

theorem read_outBuf (n : Fin 8) (k : Fin 4) : (oblk n k).view.read (Elt F) (outBuf c Y) = Y n k := by
  funext j
  have hn := n.isLt
  have hk := k.isLt
  have hj : (j 0).val < 1024 := (j 0).isLt
  have key : ∀ x : S32768x768.Idx, (x 0).val = 4096 * n.val + 1024 * k.val + (j 0).val → (x 1).val = (j 1).val →
      Y (rowBlk (x 0)) (rowPart (x 0)) (rowIdx x) = Y n k j := by
    intro x e0 e1
    have h1 : rowBlk (x 0) = n := Fin.ext (by show (x 0).val / 4096 = _; omega)
    have h2 : rowPart (x 0) = k := Fin.ext (by show (x 0).val % 4096 / 1024 = _; omega)
    have h3 : rowIdx x = j := funext fun a => by
      fin_cases a
      · exact Fin.ext (by show (x 0).val % 1024 = (j 0).val; omega)
      · exact Fin.ext e1
    rw [h1, h2, h3]
  exact key ((oblk n k).view.emb j) (by show 4096 * n.val + 1024 * k.val + 1 * (j 0).val = _; omega) (by show 0 + 1 * (j 1).val = _; omega)

theorem odone_eq (n : Fin 8) : odone c OA n (Y n) = ofresh c (outBuf c Y) n := by
  have e (k : Fin 4) : ohP c n k (wrote c OA n k (Y n k)) = ohP c n k (outBuf c Y) := by
    refine (pointsTo_rep (c : Thread nD τ) (oblk n k) _ fullShare).trans ?_
    refine Eq.trans ?_ (pointsTo_rep (c : Thread nD τ) (oblk n k) (outBuf c Y) fullShare).symm
    exact congrArg (fun x => ((oblk n k).view.loc (c : Thread nD τ) ↦[(oblk n k).view.set]{fullShare} (oblk n k).view.rep x : sProp 𝕄))
      ((View.read_writes_whole (oblk n k).view OA (Y n k)).trans (read_outBuf c Y n k).symm)
  show four _ = four _
  simp only [four, e]

/-- A row buffer whole, at anything, with its cells at zero, is its two slots free; and back. -/
theorem in_free : iprop((∃ f : Buf (Elt F) ((c : Thread nD τ).loc cc0_scratch0), ((c : Thread nD τ).loc cc0_scratch0) ↦{fullShare} f)
      ∗ bigSep Finset.univ (fun p : Fin 2 × Fin 4 => cellI c p.1 p.2)) ⊢ (iprop(inFree c 0 ∗ inFree c 1) : sProp 𝕄) := by
  refine BI.BIBase.Entails.trans ?_ (Entails.of_eq ((bigSep_parts fun s k => iprop(∃ f, xsP c s k f ∗ cellI c s k)).trans (bigSep_two _)))
  iintro ⟨⟨%f, H⟩, Hc⟩
  ihave H := (Entails.of_eq (Ring.pointsTo_blocks (ℓ := (c : Thread nD τ).loc cc0_scratch0) slotSet slotSet_disjoint slotSet_cover f)) $$ H
  ihave H := (Entails.of_eq (BI.bigSep_sep' Finset.univ (fun p : Fin 2 × Fin 4 => iprop(((c : Thread nD τ).loc cc0_scratch0) ↦[slotSet p]{fullShare} f))
    (fun p => cellI c p.1 p.2)).symm) $$ [H Hc]
  · isplitl [H] <;> iassumption
  iapply (parts_mono (Ψ := fun p : Fin 2 × Fin 4 => iprop(∃ f, xsP c p.1 p.2 f ∗ cellI c p.1 p.2)) fun p => ?_) $$ H
  iintro ⟨H, Hc⟩
  iexists f
  isplitl [H]
  · iapply (Entails.of_eq (congrArg (fun S => (_ ↦[S]{fullShare} f : sProp 𝕄)) (xpart_set p.1 p.2).symm)); iexact H
  iexact Hc
theorem in_whole : (iprop(inFree c 0 ∗ inFree c 1) : sProp 𝕄)
    ⊢ iprop((∃ f : Buf (Elt F) ((c : Thread nD τ).loc cc0_scratch0), ((c : Thread nD τ).loc cc0_scratch0) ↦{fullShare} f)
      ∗ bigSep Finset.univ (fun p : Fin 2 × Fin 4 => cellI c p.1 p.2)) := by
  refine (Entails.of_eq ((bigSep_parts fun s k => iprop(∃ f, xsP c s k f ∗ cellI c s k)).trans (bigSep_two _)).symm).trans ?_
  refine (parts_mono (Ψ := fun p : Fin 2 × Fin 4 => iprop((∃ f, ((c : Thread nD τ).loc cc0_scratch0) ↦[slotSet p]{fullShare} f) ∗ cellI c p.1 p.2)) fun p => ?_).trans ?_
  · iintro ⟨%f, H, Hc⟩
    isplitl [H]
    · iexists f
      iapply (Entails.of_eq (congrArg (fun S => (_ ↦[S]{fullShare} f : sProp 𝕄)) (xpart_set p.1 p.2))); iexact H
    iexact Hc
  refine (Entails.of_eq (BI.bigSep_sep' _ _ _)).trans (BI.Laws.sep_mono ?_ .rfl)
  exact Ring.pointsTo_blocks_join_exists (ℓ := (c : Thread nD τ).loc cc0_scratch0) slotSet slotSet_disjoint slotSet_cover (fun _ => Classical.arbitrary _)
theorem out_free : iprop((∃ f : Buf (Elt F) ((c : Thread nD τ).loc cc0_scratch1), ((c : Thread nD τ).loc cc0_scratch1) ↦{fullShare} f)
      ∗ bigSep Finset.univ (fun p : Fin 2 × Fin 4 => cellO c p.1 p.2)) ⊢ (iprop(outFree c 0 ∗ outFree c 1) : sProp 𝕄) := by
  refine BI.BIBase.Entails.trans ?_ (Entails.of_eq ((bigSep_parts fun s k => iprop(∃ f, osP c s k f ∗ cellO c s k)).trans (bigSep_two _)))
  iintro ⟨⟨%f, H⟩, Hc⟩
  ihave H := (Entails.of_eq (Ring.pointsTo_blocks (ℓ := (c : Thread nD τ).loc cc0_scratch1) slotSet slotSet_disjoint slotSet_cover f)) $$ H
  ihave H := (Entails.of_eq (BI.bigSep_sep' Finset.univ (fun p : Fin 2 × Fin 4 => iprop(((c : Thread nD τ).loc cc0_scratch1) ↦[slotSet p]{fullShare} f))
    (fun p => cellO c p.1 p.2)).symm) $$ [H Hc]
  · isplitl [H] <;> iassumption
  iapply (parts_mono (Ψ := fun p : Fin 2 × Fin 4 => iprop(∃ f, osP c p.1 p.2 f ∗ cellO c p.1 p.2)) fun p => ?_) $$ H
  iintro ⟨H, Hc⟩
  iexists f
  isplitl [H]
  · iapply (Entails.of_eq (congrArg (fun S => (_ ↦[S]{fullShare} f : sProp 𝕄)) (opart_set p.1 p.2).symm)); iexact H
  iexact Hc
theorem out_whole : (iprop(outFree c 0 ∗ outFree c 1) : sProp 𝕄)
    ⊢ iprop((∃ f : Buf (Elt F) ((c : Thread nD τ).loc cc0_scratch1), ((c : Thread nD τ).loc cc0_scratch1) ↦{fullShare} f)
      ∗ bigSep Finset.univ (fun p : Fin 2 × Fin 4 => cellO c p.1 p.2)) := by
  refine (Entails.of_eq ((bigSep_parts fun s k => iprop(∃ f, osP c s k f ∗ cellO c s k)).trans (bigSep_two _)).symm).trans ?_
  refine (parts_mono (Ψ := fun p : Fin 2 × Fin 4 => iprop((∃ f, ((c : Thread nD τ).loc cc0_scratch1) ↦[slotSet p]{fullShare} f) ∗ cellO c p.1 p.2)) fun p => ?_).trans ?_
  · iintro ⟨%f, H, Hc⟩
    isplitl [H]
    · iexists f
      iapply (Entails.of_eq (congrArg (fun S => (_ ↦[S]{fullShare} f : sProp 𝕄)) (opart_set p.1 p.2))); iexact H
    iexact Hc
  refine (Entails.of_eq (BI.bigSep_sep' _ _ _)).trans (BI.Laws.sep_mono ?_ .rfl)
  exact Ring.pointsTo_blocks_join_exists (ℓ := (c : Thread nD τ).loc cc0_scratch1) slotSet slotSet_disjoint slotSet_cover (fun _ => Classical.arbitrary _)
end

end Cert.KernelIdeal

end
-- ==== Proof.Run.lean ====
/- The whole program runs: the launch hands the invariant over, every point carries it on, and at the end the arguments are
   as they were, the result is the words of the parts and every semaphore counts zero. -/
module

public import proofs.«01_k».proof.Proof.Step
public import proofs.«01_k».proof.Proof.Split
public import proofs.«01_k».proof.Proof.Gen.KernelIdeal.Frame
public import Idealize.ShloMosaic.Lib.Pipeline.FrameSuffixV

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (Pipeline.UD sig nD τ) ℕ

/-- The kernel's own cells: of each buffer, each slot, each part. -/
def ownSem (p : Fin 2 × Fin 2 × Fin 4) : SemLoc sig :=
  if p.1 = 0 then SemLoc.dma (isem p.2.1 p.2.2).sem else SemLoc.dma (osem p.2.1 p.2.2).sem
theorem ownSemFacts : Pipeline.OwnSemFacts spec0 ownSem := by decide +kernel

theorem ownSems_eq (c : Dev nD) : (Pipeline.ownSems0 (Ix := Unit) (Name := ℕ) (U := Pipeline.UD sig nD τ) (Lvl := ℕ) (Val := Elt F) (τ := τ) ownSem c : sProp 𝕄)
    = iprop(bigSep Finset.univ (fun p : Fin 2 × Fin 4 => cellI c p.1 p.2) ∗ bigSep Finset.univ (fun p : Fin 2 × Fin 4 => cellO c p.1 p.2)) := by
  unfold Pipeline.ownSems0; rw [BI.bigSep_univ_prod, bigSep_two]; rfl

section
variable (c : Dev nD) (XA : Buf (Elt F) (xM.view.loc (c : Thread nD τ))) (OA : Buf (Elt F) (oM.view.loc (c : Thread nD τ)))
  (Y : Fin 8 → Fin 4 → Part F)

/-- What is held before the first point, and after the last. -/
theorem inv_zero : inv c XA OA Y 0 = iprop(inFree c 0 ∗ inFree c 1 ∗ outFree c 0 ∗ outFree c 1
    ∗ (((c : Thread nD τ).loc main_v0) ↦{fullShare} XA) ∗ (((c : Thread nD τ).loc main_v12) ↦{fullShare} OA)) := by
  rw [x_blocks, o_blocks]
  have hx : bigSep Finset.univ (xSt c XA 0) = bigSep Finset.univ (xhome c XA) := BI.bigSep_congr fun n _ => if_neg (by omega)
  have ho : bigSep Finset.univ (oSt c OA Y 0) = bigSep Finset.univ (ofresh c OA) :=
    BI.bigSep_congr fun n _ => (if_neg (by omega)).trans (if_neg (by omega))
  unfold inv
  rw [inSt_off c XA (t := 0) (.inl rfl), inSt_off c XA (t := 0) (.inl rfl), outSt_off c OA Y (t := 0) (n := 0) (by omega),
    outSt_off c OA Y (t := 0) (n := 0 + 1) (by omega), hx, ho]
  rfl
theorem inv_eight : inv c XA OA Y 8 = iprop(inFree c 0 ∗ inFree c 1 ∗ outFree c 0 ∗ outFree c 1
    ∗ (((c : Thread nD τ).loc main_v0) ↦{fullShare} XA) ∗ (((c : Thread nD τ).loc main_v12) ↦{fullShare} outBuf c Y)) := by
  rw [x_blocks, o_blocks]
  have hx : bigSep Finset.univ (xSt c XA 8) = bigSep Finset.univ (xhome c XA) := BI.bigSep_congr fun n _ => if_neg (by have := n.isLt; omega)
  have ho : bigSep Finset.univ (oSt c OA Y 8) = bigSep Finset.univ (ofresh c (outBuf c Y)) :=
    BI.bigSep_congr fun n _ => ((if_neg (by omega)).trans (if_pos (by have := n.isLt; omega))).trans (odone_eq c OA Y n)
  unfold inv
  rw [inSt_off c XA (t := 8) (n := 8) (by omega), inSt_off c XA (t := 8) (n := 8 + 1) (by omega), outSt_off c OA Y (t := 8) (n := 8) (by omega),
    outSt_off c OA Y (t := 8) (n := 8 + 1) (by omega), hx, ho]
  rfl

/-- The buffers the kernel moves by its own transfers: read, and written. -/
abbrev readR : Finset (Ref sig .tc) := {main_v0}
abbrev writtenR : Finset (Ref sig .tc) := {main_v12}

variable (V G : (c : Dev nD) → (b : Ref sig .tc) → Buf (Elt F) ((c.tc : Thread nD τ).loc b))

theorem region_in : Pipeline.ΦDRV ownSem spec0 readR writtenR V V c ⊢ inv c (V c main_v0) (V c main_v12) Y 0 := by
  rw [inv_zero]
  unfold Pipeline.ΦDRV
  rw [scopedRest0_eq, ownSems_eq, BI.bigSep_singleton, BI.bigSep_singleton]
  iintro ⟨⟨Hx, Ho⟩, ⟨Hci, Hco⟩, HX, HO⟩
  ihave HI := (in_free c) $$ [Hx Hci]
  · isplitl [Hx] <;> iassumption
  ihave HR := (out_free c) $$ [Ho Hco]
  · isplitl [Ho] <;> iassumption
  icases HI with ⟨HI0, HI1⟩
  icases HR with ⟨HR0, HR1⟩
  isplitl [HI0]; · iexact HI0
  isplitl [HI1]; · iexact HI1
  isplitl [HR0]; · iexact HR0
  isplitl [HR1]; · iexact HR1
  isplitl [HX]; · iexact HX
  iexact HO
theorem region_out (hG : G c main_v12 = outBuf c Y) : inv c (V c main_v0) OA Y 8 ⊢ Pipeline.ΦDRV ownSem spec0 readR writtenR V G c := by
  rw [inv_eight, ← hG]
  unfold Pipeline.ΦDRV
  rw [scopedRest0_eq, ownSems_eq, BI.bigSep_singleton, BI.bigSep_singleton]
  iintro ⟨HI0, HI1, HR0, HR1, HX, HO⟩
  ihave HI := (in_whole c) $$ [HI0 HI1]
  · isplitl [HI0] <;> iassumption
  ihave HR := (out_whole c) $$ [HR0 HR1]
  · isplitl [HR0] <;> iassumption
  icases HI with ⟨Hx, Hci⟩
  icases HR with ⟨Ho, Hco⟩
  isplitl [Hx Ho]
  · isplitl [Hx] <;> iassumption
  isplitl [Hci Hco]
  · isplitl [Hci] <;> iassumption
  isplitl [HX]; · iexact HX
  iexact HO
end

/-! ## The pipeline's proof data -/

variable (m : (ℓ : Loc nD τ sig) → Buf (Elt F) ℓ)

/-- The tokens and the weights as the region finds them, and the words of the result's parts. -/
abbrev tok (c : Dev nD) : Buf (Elt F) (xM.view.loc (c : Thread nD τ)) := V m c main_v0
def parts (c : Dev nD) (n : Fin 8) (k : Fin 4) : Part F :=
  partOut (xwords c (tok m c) n k) (V m c main_arg1) (V m c main_v1) (V m c main_v3) (V m c main_v6) (V m c main_v8) (V m c main_v11)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := inv c (tok m c) (V m c main_v12) (parts m c) t.val
  q _ := fullShare
  owed _ := 0

/-- A window's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; dsimp only [dats]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; dsimp only [dats]; rfl)
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; rfl) t d).trans
    (by unfold Dat.fetched Dat.blockOf iblk; dsimp only [dats]; rfl)

/-- A load of a whole buffer reads the words it was filled with. -/
theorem readAt_rep_whole {κ : Kind} {sp : Space} {s : Shape} {e : EltTy} (v : View sig κ sp s e) {off : Fin s.rank → ℕ} (ho : ∀ a, off a = 0)
    (h : ∀ a, off a + s.size a ≤ s.size a) (x : s.Idx → Elt F e) : v.readAt (Elt F) (Rect.unit off s.size h).toLoadRect (v.rep x) = x := by
  rw [View.readAt_rep]
  exact funext fun j => congrArg x (funext fun a => Fin.ext (by show off a + 1 * (j a).val = (j a).val; rw [ho a]; omega))
/-- A window's block is its whole array. -/
theorem blk_0 (t : Fin cfg0.N) (f : S768x8.Idx → Elt F .f32) : ((cfg0.win 0).blk t).view.read (Elt F) f = f :=
  funext fun j => congrArg f (funext fun a => Fin.ext (by
    fin_cases a
    · show 0 * 768 + 1 * (j 0).val = (j 0).val; omega
    · show 0 * 8 + 1 * (j 1).val = (j 1).val; omega))
theorem blk_1 (t : Fin cfg0.N) (f : S1x8.Idx → Elt F .f32) : ((cfg0.win 1).blk t).view.read (Elt F) f = f :=
  funext fun j => congrArg f (funext fun a => Fin.ext (by
    fin_cases a
    · show 0 * 1 + 1 * (j 0).val = (j 0).val; omega
    · show 0 * 8 + 1 * (j 1).val = (j 1).val; omega))
theorem blk_2 (t : Fin cfg0.N) (f : S8x32.Idx → Elt F .f32) : ((cfg0.win 2).blk t).view.read (Elt F) f = f :=
  funext fun j => congrArg f (funext fun a => Fin.ext (by
    fin_cases a
    · show 0 * 8 + 1 * (j 0).val = (j 0).val; omega
    · show 0 * 32 + 1 * (j 1).val = (j 1).val; omega))
theorem blk_3 (t : Fin cfg0.N) (f : S1x32.Idx → Elt F .f32) : ((cfg0.win 3).blk t).view.read (Elt F) f = f :=
  funext fun j => congrArg f (funext fun a => Fin.ext (by
    fin_cases a
    · show 0 * 1 + 1 * (j 0).val = (j 0).val; omega
    · show 0 * 32 + 1 * (j 1).val = (j 1).val; omega))
theorem blk_4 (t : Fin cfg0.N) (f : S32x768.Idx → Elt F .f32) : ((cfg0.win 4).blk t).view.read (Elt F) f = f :=
  funext fun j => congrArg f (funext fun a => Fin.ext (by
    fin_cases a
    · show 0 * 32 + 1 * (j 0).val = (j 0).val; omega
    · show 0 * 768 + 1 * (j 1).val = (j 1).val; omega))
theorem blk_5 (t : Fin cfg0.N) (f : S1x768.Idx → Elt F .f32) : ((cfg0.win 5).blk t).view.read (Elt F) f = f :=
  funext fun j => congrArg f (funext fun a => Fin.ext (by
    fin_cases a
    · show 0 * 1 + 1 * (j 0).val = (j 0).val; omega
    · show 0 * 768 + 1 * (j 1).val = (j 1).val; omega))
theorem two_zeros (a : Fin 2) : (![0, 0] : Fin 2 → ℕ) a = 0 := by fin_cases a <;> rfl
/-- What a body reads of its windows. -/
theorem read_0 (c : Dev nD) (t : Fin cfg0.N) : rd2 c (st0_0 t) ((st0_0 t).view.rep (iblk m c 0 t)) = V m c main_arg1 :=
  (readAt_rep_whole _ two_zeros _ _).trans (blk_0 t _)
theorem read_1 (c : Dev nD) (t : Fin cfg0.N) : rd3 c (st0_1 t) ((st0_1 t).view.rep (iblk m c 1 t)) = V m c main_v1 :=
  (readAt_rep_whole _ two_zeros _ _).trans (blk_1 t _)
theorem read_2 (c : Dev nD) (t : Fin cfg0.N) : rd4 c (st0_2 t) ((st0_2 t).view.rep (iblk m c 2 t)) = V m c main_v3 :=
  (readAt_rep_whole _ two_zeros _ _).trans (blk_2 t _)
theorem read_3 (c : Dev nD) (t : Fin cfg0.N) : rd5 c (st0_3 t) ((st0_3 t).view.rep (iblk m c 3 t)) = V m c main_v6 :=
  (readAt_rep_whole _ two_zeros _ _).trans (blk_3 t _)
theorem read_4 (c : Dev nD) (t : Fin cfg0.N) : rd6 c (st0_4 t) ((st0_4 t).view.rep (iblk m c 4 t)) = V m c main_v8 :=
  (readAt_rep_whole _ two_zeros _ _).trans (blk_4 t _)
theorem read_5 (c : Dev nD) (t : Fin cfg0.N) : rd7 c (st0_5 t) ((st0_5 t).view.rep (iblk m c 5 t)) = V m c main_v11 :=
  (readAt_rep_whole _ two_zeros _ _).trans (blk_5 t _)

end Cert.KernelIdeal

end
-- ==== Proof.Whole.lean ====
/- The whole program's run: the points' bodies carry the invariant, and at the end every argument is as it was, the result is
   the words of the parts, row by row, and every semaphore counts zero. -/
module

public import proofs.«01_k».proof.Proof.Run

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ)

theorem coords_val : ∀ t : Fin grid0.N, (grid0.coords t 0).val = t.val := by decide +kernel

theorem row (t : Fin cfg0.N) : (defs₀ (F := F)) .tc cfg0.body (cfg0.bodyArgs t (cfg0.slots t)) = bodyAt0 t := by
  unfold defs₀; rw [Defs.onTc_tc]

/-- The words a point's body computes are the parts' words, at every point. -/
theorem outW_eq (c : Dev nD) (t : Fin cfg0.N) :
    outW c (tok m c) (st0_0 t) (st0_1 t) (st0_2 t) (st0_3 t) (st0_4 t) (st0_5 t)
      ((st0_0 t).view.rep (iblk m c 0 t)) ((st0_1 t).view.rep (iblk m c 1 t)) ((st0_2 t).view.rep (iblk m c 2 t))
      ((st0_3 t).view.rep (iblk m c 3 t)) ((st0_4 t).view.rep (iblk m c 4 t)) ((st0_5 t).view.rep (iblk m c 5 t)) = parts m c := by
  funext n k
  unfold parts outW
  rw [read_0, read_1, read_2, read_3, read_4, read_5]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, before_3, before_4, before_5]
  rw [show (dats m 0 c).Φ t.castSucc = inv c (tok m c) (V m c main_v12) (parts m c) (grid0.coords t 0).val from by rw [coords_val]; rfl,
    show (dats m 0 c).Φ t.succ = inv c (tok m c) (V m c main_v12) (parts m c) ((grid0.coords t 0).val + 1) from by rw [coords_val]; rfl]
  unfold Dat.owesAt Pipeline.owesWithin
  rw [show (dats m 0 c).owed t.castSucc = 0 from rfl, show (dats m 0 c).owed t.succ = 0 from rfl]
  unfold owns
  iintro ⟨HI, ⟨%W, -, HW⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  ihave H0 := (pointsTo_rep_entails (c : Thread nD τ) (st0_0 t) g0 fullShare) $$ H0
  ihave H1 := (pointsTo_rep_entails (c : Thread nD τ) (st0_1 t) g1 fullShare) $$ H1
  ihave H2 := (pointsTo_rep_entails (c : Thread nD τ) (st0_2 t) g2 fullShare) $$ H2
  ihave H3 := (pointsTo_rep_entails (c : Thread nD τ) (st0_3 t) g3 fullShare) $$ H3
  ihave H4 := (pointsTo_rep_entails (c : Thread nD τ) (st0_4 t) g4 fullShare) $$ H4
  ihave H5 := (pointsTo_rep_entails (c : Thread nD τ) (st0_5 t) g5 fullShare) $$ H5
  rw [h0, h1, h2, h3, h4, h5]
  sl_rw [row t]
  iapply (step c (tok m c) (V m c main_v12) (parts m c) (grid0.coords t) (st0_0 t) (hstage0_0 _) (st0_1 t) (hstage0_1 _) (st0_2 t) (hstage0_2 _)
    (st0_3 t) (hstage0_3 _) (st0_4 t) (hstage0_4 _) (st0_5 t) (hstage0_5 _) _ _ _ _ _ _ (outW_eq m c t) W)
  isplitl [HI HW H0 H1 H2 H3 H4 H5]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [HW]; · iexact HW
    iexact HI
  iintro ⟨⟨H0, H1, H2, H3, H4, H5⟩, ⟨%W', HW⟩, HI⟩
  isplitl [HI]; · iexact HI
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  iexists _; isplitr; · ipureintro; exact View.read_rep _ _
  iexact H5

/-! ## The run -/

/-- What the region leaves of the arrays its transfers write: the result. -/
def left (c : Dev nD) (b : Ref sig .tc) : Buf (Elt F) ((c.tc : Thread nD τ).loc b) :=
  if h : b = main_v12 then h ▸ (outBuf c (parts m c) : Buf (Elt F) ((c.tc : Thread nD τ).loc main_v12)) else V m c b
theorem left_eq (c : Dev nD) : left m c main_v12 = outBuf c (parts m c) := dif_pos rfl

theorem hmain_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The valuation the lines after the region start from. -/
abbrev after (c : Dev nD) : Valuation τ sig (Elt F) :=
  Pipeline.withArrays spec0 c (Pipeline.withR (V0 m c) writtenR c (left m c)) fun w => (dats m 0 c).arrAt w cfg0.N

theorem run_raw (ρ : Dev nD → PrngReg) :
    θ_run defs (onTc (τ := τ) (main (F := F))) ⟨m, fun _ => 0, ρ⟩ (fun r =>
      (∀ c : Dev nD, (∀ w, r.2.mem ((spec0 w).arr.view.loc (c.tc : Thread nD τ)) = (dats m 0 c).arrAt w cfg0.N)
        ∧ ∀ b ∈ Pipeline.restRefs sig spec0, r.2.mem ((c.tc : Thread nD τ).loc b) = StableHlo.after (List.flatten [hostOps1]) (after m c) (Proc.devRef .tc b))
      ∧ r.2.sem = fun _ => 0) :=
  Pipeline.θ_run_frame_dmaR_aroundV cfgs (dats m) (0 : Fin 1) launch0 ownSem defs₀ 𝒱₀ ownSemFacts readR writtenR
    (by decide +kernel) (by decide +kernel) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := left m) (hmain := hmain_around m) (hA := fun _ _ => rfl)
    (hin := fun c => region_in c (parts m c) (V m))
    (hout := fun c => region_out c (V m c main_v12) (parts m c) (V m) (left m) (left_eq m c))
    (Q' := _) (hQ' := fun _ h => h)

end Cert.KernelIdeal

end
-- ==== Proof.Final.lean ====
/- What the program's run ends with: every argument as it was, the result the parts' words row by row, and every semaphore
   at zero. And the values the lines before the region prepare for its windows. -/
module

public import proofs.«01_k».proof.Proof.Whole

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]
variable (m : (ℓ : Loc nD τ sig) → Buf (Elt F) ℓ)

/-! ## The line after the region -/

/-- An array that is neither the result nor the region's is after the run what it was at the region's start. -/
theorem after_other (c : Dev nD) (b : Ref sig .tc) (h13 : b ≠ main_v13) (h12 : b ∉ writtenR) (hw : ∀ w, Pipeline.arrRef spec0 w ≠ b) :
    StableHlo.after (List.flatten [hostOps1]) (after m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h13))]
  unfold after
  rw [Pipeline.withArrays_of_ne _ c _ _ b hw, Pipeline.withR_of_not_mem _ _ c _ b h12]

/-- The program's result: the parts' words, row by row, in the shape of the result. -/
def result (c : Dev nD) : Vec F S4x8192x768 .f32 :=
  shapeCast S4x8192x768 (outBuf c (parts m c) : Vec F S32768x768 .f32) shapeCasts_S32768x768_S4x8192x768

/-- What the line after the region leaves in the program's result. -/
theorem after_result (c : Dev nD) :
    StableHlo.after (List.flatten [hostOps1]) (after m c) (Proc.devRef .tc main_v13) = result m c := by
  rw [show List.flatten [(hostOps1 : List (HloOp τ sig (Elt F)))] = hostOps1 from by simp only [List.flatten_cons, List.flatten_nil, List.append_nil],
    StableHlo.after_cons, StableHlo.after_nil, StableHlo.reshape_result']
  unfold after
  rw [Pipeline.withArrays_of_ne _ c _ _ main_v12 (by exact (by decide : ∀ w, Pipeline.arrRef spec0 w ≠ main_v12)),
    Pipeline.withR_of_mem _ _ c _ main_v12 (by decide), left_eq]
  rfl

/-- The run, with the arguments' and the result's contents read at its end. -/
theorem run (ρ : Dev nD → PrngReg) :
    θ_run defs (onTc (τ := τ) (main (F := F))) ⟨m, fun _ => 0, ρ⟩ (fun r =>
      (∀ c : Dev nD,
        r.2.mem ((c.tc : Thread nD τ).loc main_v13) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) := by
  refine (run_raw m ρ).mono fun r h => ⟨fun c => ?_, h.2⟩
  have hw := (h.1 c).1
  have hr := (h.1 c).2
  refine ⟨(hr main_v13 (by decide)).trans (after_result m c),
    (hr main_arg0 (by decide)).trans ((after_other m c main_arg0 (by decide) (by decide) (by decide)).trans (V_main_arg0 m c)),
    ((hw 0).trans ((dats m 0 c).arrAt_in 0 rfl _)).trans (V_main_arg1 m c),
    (hr main_arg2 (by decide)).trans ((after_other m c main_arg2 (by decide) (by decide) (by decide)).trans (V_main_arg2 m c)),
    (hr main_arg3 (by decide)).trans ((after_other m c main_arg3 (by decide) (by decide) (by decide)).trans (V_main_arg3 m c)),
    (hr main_arg4 (by decide)).trans ((after_other m c main_arg4 (by decide) (by decide) (by decide)).trans (V_main_arg4 m c)),
    (hr main_arg5 (by decide)).trans ((after_other m c main_arg5 (by decide) (by decide) (by decide)).trans (V_main_arg5 m c)),
    (hr main_arg6 (by decide)).trans ((after_other m c main_arg6 (by decide) (by decide) (by decide)).trans (V_main_arg6 m c))⟩

/-! ## What the windows hold: the tokens as flat rows, and the last expert's weights and biases -/

set_option maxRecDepth 8192 in
theorem tok_eq (c : Dev nD) : tok m c =
    shapeCast S32768x768 (m ((c.tc : Thread nD τ).loc main_arg0) : Vec F S4x8192x768 .f32) shapeCasts_S4x8192x768_S32768x768 := by
  unfold tok
  simp only [V, V0, hostOps0, List.flatten_cons, List.flatten_nil, List.append_nil, List.cons_append, List.nil_append, StableHlo.after_cons, StableHlo.after_nil]
  after_results_simp
  rfl

set_option maxRecDepth 8192 in
theorem br_eq (c : Dev nD) : V m c main_v1 =
    shapeCast S1x8 (m ((c.tc : Thread nD τ).loc main_arg2) : Vec F S8 .f32) shapeCasts_S8_S1x8 := by
  simp only [V, V0, hostOps0, List.flatten_cons, List.flatten_nil, List.append_nil, List.cons_append, List.nil_append, StableHlo.after_cons, StableHlo.after_nil]
  after_results_simp
  rfl

set_option maxRecDepth 8192 in
theorem w1_eq (c : Dev nD) : V m c main_v3 =
    shapeCast S8x32 (extractStridedSlice S1x8x32 ![7, 0, 0] (m ((c.tc : Thread nD τ).loc main_arg3) : Vec F S8x8x32 .f32) slices_S8x8x32_S1x8x32_7_0_0) shapeCasts_S1x8x32_S8x32 := by
  simp only [V, V0, hostOps0, List.flatten_cons, List.flatten_nil, List.append_nil, List.cons_append, List.nil_append, StableHlo.after_cons, StableHlo.after_nil]
  after_results_simp
  rfl

set_option maxRecDepth 8192 in
theorem b1_eq (c : Dev nD) : V m c main_v6 =
    shapeCast S1x32 (shapeCast S32 (extractStridedSlice S1x32 ![7, 0] (m ((c.tc : Thread nD τ).loc main_arg4) : Vec F S8x32 .f32) slices_S8x32_S1x32_7_0) shapeCasts_S1x32_S32) shapeCasts_S32_S1x32 := by
  simp only [V, V0, hostOps0, List.flatten_cons, List.flatten_nil, List.append_nil, List.cons_append, List.nil_append, StableHlo.after_cons, StableHlo.after_nil]
  after_results_simp
  rfl

set_option maxRecDepth 8192 in
theorem w2_eq (c : Dev nD) : V m c main_v8 =
    shapeCast S32x768 (extractStridedSlice S1x32x768 ![7, 0, 0] (m ((c.tc : Thread nD τ).loc main_arg5) : Vec F S8x32x768 .f32) slices_S8x32x768_S1x32x768_7_0_0) shapeCasts_S1x32x768_S32x768 := by
  simp only [V, V0, hostOps0, List.flatten_cons, List.flatten_nil, List.append_nil, List.cons_append, List.nil_append, StableHlo.after_cons, StableHlo.after_nil]
  after_results_simp
  rfl

set_option maxRecDepth 8192 in
theorem b2_eq (c : Dev nD) : V m c main_v11 =
    shapeCast S1x768 (shapeCast S768 (extractStridedSlice S1x768 ![7, 0] (m ((c.tc : Thread nD τ).loc main_arg6) : Vec F S8x768 .f32) slices_S8x768_S1x768_7_0) shapeCasts_S1x768_S768) shapeCasts_S768_S1x768 := by
  simp only [V, V0, hostOps0, List.flatten_cons, List.flatten_nil, List.append_nil, List.cons_append, List.nil_append, StableHlo.after_cons, StableHlo.after_nil]
  after_results_simp
  rfl

end Cert.KernelIdeal

end
-- ==== Proof.Row.lean ====
/- The mathematics of a row of the result, as functions of extended reals: the router's weights from the scores, the last
   expert's hidden layer from the weights, the activation, and the row of the result. -/
module

public import Idealize.ShloMosaic.Lib.Pointwise
public import Idealize.ShloMosaic.PureOps.Ideal.Laws

@[expose] public section

noncomputable section

namespace Cert.Value

open Idealize.ShloMosaic

/-- The largest score of a row. -/
def peak (s : Fin 8 → EReal) : EReal := Finset.univ.fold max (Ideal.ofBits .f32 0xFF800000#32) s

/-- An expert's weight: its share of the exponentials of the scores, each less the largest. -/
def weight (s : Fin 8 → EReal) (e : Fin 8) : EReal :=
  Ideal.div (Ideal.exp (s e - peak s)) (∑ k, Ideal.exp (s k - peak s))

/-- The score of an expert, from a row of the tokens. -/
def score (x : Fin 768 → EReal) (wr : Fin 768 → Fin 8 → EReal) (br : Fin 8 → EReal) (e : Fin 8) : EReal :=
  ∑ k, x k * wr k e + br e

/-- The hidden layer, before its activation. -/
def hidden (s : Fin 8 → EReal) (w : Fin 8 → Fin 32 → EReal) (b : Fin 32 → EReal) (f : Fin 32) : EReal :=
  ∑ e, weight s e * w e f + b f

/-- The activation, by the error function. -/
def gelu (h : EReal) : EReal :=
  h * Ideal.ofBits .f32 0x3F000000#32 * (1 + Ideal.erf (h * Ideal.ofBits .f32 0x3F3504F3#32))

/-- A row of the result, from the scores of its row. -/
def row (s : Fin 8 → EReal) (w1 : Fin 8 → Fin 32 → EReal) (b1 : Fin 32 → EReal) (w2 : Fin 32 → Fin 768 → EReal)
    (b2 : Fin 768 → EReal) (d : Fin 768) : EReal :=
  ∑ f, gelu (hidden s w1 b1 f) * w2 f d + b2 d

/-- A row depends on its reads only. -/
theorem row_congr {x x' : Fin 768 → EReal} {wr wr' : Fin 768 → Fin 8 → EReal} {br br' : Fin 8 → EReal} {w1 w1' : Fin 8 → Fin 32 → EReal}
    {b1 b1' : Fin 32 → EReal} {w2 w2' : Fin 32 → Fin 768 → EReal} {b2 b2' : Fin 768 → EReal} (hx : ∀ k, x k = x' k)
    (hwr : ∀ k e, wr k e = wr' k e) (hbr : ∀ e, br e = br' e) (hw1 : ∀ e f, w1 e f = w1' e f) (hb1 : ∀ f, b1 f = b1' f)
    (hw2 : ∀ f d, w2 f d = w2' f d) (hb2 : ∀ d, b2 d = b2' d) (d : Fin 768) :
    row (score x wr br) w1 b1 w2 b2 d = row (score x' wr' br') w1' b1' w2' b2' d := by
  obtain rfl : x = x' := funext hx
  obtain rfl : wr = wr' := funext fun k => funext (hwr k)
  obtain rfl : br = br' := funext hbr
  obtain rfl : w1 = w1' := funext fun e => funext (hw1 e)
  obtain rfl : b1 = b1' := funext hb1
  obtain rfl : w2 = w2' := funext fun f => funext (hw2 f)
  obtain rfl : b2 = b2' := funext hb2
  rfl

/-- The largest score is what the fold started from, or larger. -/
theorem max_peak (s : Fin 8 → EReal) : max (Ideal.ofBits .f32 0xFF800000#32) (peak s) = peak s :=
  max_eq_right ((Finset.le_fold_max _).2 (Or.inl le_rfl))

/-- The activation by the complement of the error function at the negated argument is the same function. -/
theorem gelu_erfc (h : EReal) :
    Ideal.ofBits .f32 0x3F000000#32 * h * Ideal.erfc (-h * Ideal.ofBits .f32 0x3F3504F3#32) = gelu h := by
  rw [EReal.neg_mul, Ideal.erfc_neg, mul_comm _ h]
  rfl

end Cert.Value

end
-- ==== Proof.Pure.lean ====
/- The kernel's words of a part and the reference's result, element by element, at the ideal numbers: both are the row's
   function (Row.lean) of the same reads. -/
module

public import proofs.«01_k».proof.Proof.Words
public import proofs.«01_k».proof.Proof.Row
public import proofs.«01_k».proof.Proof.Gen.ReferenceIdeal.Run

@[expose] public section

set_option maxRecDepth 16384

noncomputable section

namespace Cert.Value

open Idealize.ShloMosaic Idealize.ShloMosaic.TcCoe Idealize.SL.Sem

/-! ## The kernel -/

section Kernel
open Cert.KernelIdeal Cert.KernelIdeal.Gen

theorem scores_at (x : FVec Ideal S1024x768 .f32) (wr : FVec Ideal S768x8 .f32) (br : FVec Ideal S1x8 .f32) (r : Fin 1024) (e : Fin 8) :
    scores (F := Ideal) x wr br (ix2 r e) = score (fun k => x (ix2 r k)) (fun k e => wr (ix2 k e)) (fun e => br (ix2 0 e)) e := by
  pointwise [scores]
  rfl

theorem pay_at (s : FVec Ideal S1024x8 .f32) (w1 : FVec Ideal S8x32 .f32) (b1 : FVec Ideal S1x32 .f32) (w2 : FVec Ideal S32x768 .f32)
    (b2 : FVec Ideal S1x768 .f32) (r : Fin 1024) (d : Fin 768) :
    k0_pay6 (F := Ideal) s w1 b1 w2 b2 (ix3 0 r d)
      = row (fun e => s (ix2 r e)) (fun e f => w1 (ix2 e f)) (fun f => b1 (ix2 0 f)) (fun f d => w2 (ix2 f d)) (fun d => b2 (ix2 0 d)) d := by
  pointwise [k0_pay6]
  rfl

/-- The words of a part, at an element. -/
theorem partOut_at (x : FVec Ideal S1024x768 .f32) (wr : FVec Ideal S768x8 .f32) (br : FVec Ideal S1x8 .f32) (w1 : FVec Ideal S8x32 .f32)
    (b1 : FVec Ideal S1x32 .f32) (w2 : FVec Ideal S32x768 .f32) (b2 : FVec Ideal S1x768 .f32) (r : Fin 1024) (d : Fin 768) :
    partOut (F := Ideal) x wr br w1 b1 w2 b2 (ix2 r d)
      = row (score (fun k => x (ix2 r k)) (fun k e => wr (ix2 k e)) (fun e => br (ix2 0 e)))
          (fun e f => w1 (ix2 e f)) (fun f => b1 (ix2 0 f)) (fun f d => w2 (ix2 f d)) (fun d => b2 (ix2 0 d)) d := by
  have h : partOut (F := Ideal) x wr br w1 b1 w2 b2 (ix2 r d) = k0_pay6 (F := Ideal) (scores x wr br) w1 b1 w2 b2 (ix3 0 r d) := by
    pointwise [partOut]
  rw [h, pay_at]
  exact congrArg (fun s => row s _ _ _ _ d) (funext fun e => scores_at x wr br r e)

end Kernel

/-! ## The reference -/

section Reference
open Cert.ReferenceIdeal Cert.ReferenceIdeal.Gen Cert.ReferenceIdeal.Value

variable (X : FVec Ideal S4x8192x768 .f32) (Wr : FVec Ideal S768x8 .f32) (Br : FVec Ideal S8 .f32) (W1 : FVec Ideal S8x8x32 .f32)
  (B1 : FVec Ideal S8x32 .f32) (W2 : FVec Ideal S8x32x768 .f32) (B2 : FVec Ideal S8x768 .f32)

/-- The exponentials of the reference's softmax. -/
def refExp (s : FVec Ideal S4x8192x8 .f32) : FVec Ideal S4x8192x8 .f32 :=
  Host.exp (subf s (broadcastInDim S4x8192x8 ![0, 1, 2] bcast_S4x8192x1_S4x8192x8_0_1_2 (broadcastInDim S4x8192x1 ![0, 1] bcast_S4x8192_S4x8192x1_0_1
    (maximumf (broadcastInDim S4x8192 ![] bcast_S_S4x8192 (constant S_ .f32 0xFF800000#32))
      (Host.reduce FloatOps.maximumf s (constant S_ .f32 0xFF800000#32) reducesTo_S4x8192x8_S4x8192_d2 h_S_)))))

theorem refExp_at (s : FVec Ideal S4x8192x8 .f32) (b : Fin 4) (t : Fin 8192) (e : Fin 8) :
    refExp s (ix3 b t e) = Ideal.exp (s (ix3 b t e) - peak fun k => s (ix3 b t k)) := by
  pointwise [refExp]
  exact congrArg (fun p => Ideal.exp (s (ix3 b t e) - p)) (max_peak _)

/-- The reference's softmax. -/
def refWeight (s : FVec Ideal S4x8192x8 .f32) : FVec Ideal S4x8192x8 .f32 :=
  Host.divf (refExp s) (broadcastInDim S4x8192x8 ![0, 1, 2] bcast_S4x8192x1_S4x8192x8_0_1_2 (broadcastInDim S4x8192x1 ![0, 1] bcast_S4x8192_S4x8192x1_0_1
    (Host.reduceAdd (refExp s) (constant S_ .f32 0x00000000#32) reducesTo_S4x8192x8_S4x8192_d2 h_S_)))

theorem refWeight_at (s : FVec Ideal S4x8192x8 .f32) (b : Fin 4) (t : Fin 8192) (e : Fin 8) :
    refWeight s (ix3 b t e) = weight (fun k => s (ix3 b t k)) e := by
  pointwise [refWeight, refExp_at]
  rfl

/-- The reference's scores. -/
def refScore : FVec Ideal S4x8192x8 .f32 :=
  addf (Host.dotGeneral dot_S4x8192x768_S768x8_S4x8192x8_2_0_01_1_n_n none X Wr)
    (broadcastInDim S4x8192x8 ![0, 1, 2] bcast_S1x1x8_S4x8192x8_0_1_2 (broadcastInDim S1x1x8 ![2] bcast_S8_S1x1x8_2 Br))

theorem refScore_at (b : Fin 4) (t : Fin 8192) (e : Fin 8) :
    refScore X Wr Br (ix3 b t e) = score (fun k => X (ix3 b t k)) (fun k e => Wr (ix2 k e)) (fun e => Br (ix1 e)) e := by
  pointwise [refScore]
  rfl

/-- The last expert's hidden layer, before its activation. -/
def refHidden (s : FVec Ideal S4x8192x8 .f32) : FVec Ideal S4x8192x32 .f32 :=
  addf (Host.dotGeneral dot_S4x8192x8_S8x32_S4x8192x32_2_0_01_1_n_n none (refWeight s)
      (shapeCast S8x32 (extractStridedSlice S1x8x32 ![7, 0, 0] W1 slices_S8x8x32_S1x8x32_7_0_0) shapeCasts_S1x8x32_S8x32))
    (broadcastInDim S4x8192x32 ![0, 1, 2] bcast_S1x1x32_S4x8192x32_0_1_2 (broadcastInDim S1x1x32 ![2] bcast_S32_S1x1x32_2
      (shapeCast S32 (extractStridedSlice S1x32 ![7, 0] B1 slices_S8x32_S1x32_7_0) shapeCasts_S1x32_S32)))

theorem refHidden_at (s : FVec Ideal S4x8192x8 .f32) (b : Fin 4) (t : Fin 8192) (f : Fin 32) :
    refHidden W1 B1 s (ix3 b t f) = hidden (fun k => s (ix3 b t k)) (fun e f => W1 (ix3 7 e f)) (fun f => B1 (ix2 7 f)) f := by
  pointwise [refHidden, refWeight_at]
  rfl

/-- The reference's result, from the hidden layer. -/
def refOut (h : FVec Ideal S4x8192x32 .f32) : FVec Ideal S4x8192x768 .f32 :=
  addf (Host.dotGeneral dot_S4x8192x32_S32x768_S4x8192x768_2_0_01_1_n_n none
      (mulf (mulf (broadcastInDim S4x8192x32 ![] bcast_S_S4x8192x32 (constant S_ .f32 0x3F000000#32)) h)
        (Host.erfc (mulf (Host.negf h) (broadcastInDim S4x8192x32 ![] bcast_S_S4x8192x32 (constant S_ .f32 0x3F3504F3#32)))))
      (shapeCast S32x768 (extractStridedSlice S1x32x768 ![7, 0, 0] W2 slices_S8x32x768_S1x32x768_7_0_0) shapeCasts_S1x32x768_S32x768))
    (broadcastInDim S4x8192x768 ![0, 1, 2] bcast_S1x1x768_S4x8192x768_0_1_2 (broadcastInDim S1x1x768 ![2] bcast_S768_S1x1x768_2
      (shapeCast S768 (extractStridedSlice S1x768 ![7, 0] B2 slices_S8x768_S1x768_7_0) shapeCasts_S1x768_S768)))

theorem refOut_at (h : FVec Ideal S4x8192x32 .f32) (b : Fin 4) (t : Fin 8192) (d : Fin 768) :
    refOut W2 B2 h (ix3 b t d) = ∑ f, gelu (h (ix3 b t f)) * W2 (ix3 7 f d) + B2 (ix2 7 d) := by
  pointwise [refOut]
  exact congrArg (· + B2 (ix2 7 d)) (Finset.sum_congr rfl fun f _ => congrArg (· * W2 (ix3 7 f d)) (gelu_erfc _))

/-- The reference's result, of its arguments. -/
def refAll : FVec Ideal S4x8192x768 .f32 := refOut W2 B2 (refHidden W1 B1 (refScore X Wr Br))

/-- The reference's result, at an element. -/
theorem refAll_at (b : Fin 4) (t : Fin 8192) (d : Fin 768) :
    refAll X Wr Br W1 B1 W2 B2 (ix3 b t d)
      = row (score (fun k => X (ix3 b t k)) (fun k e => Wr (ix2 k e)) (fun e => Br (ix1 e)))
          (fun e f => W1 (ix3 7 e f)) (fun f => B1 (ix2 7 f)) (fun f d => W2 (ix3 7 f d)) (fun d => B2 (ix2 7 d)) d := by
  have hs : (fun k => refScore X Wr Br (ix3 b t k)) = score (fun k => X (ix3 b t k)) (fun k e => Wr (ix2 k e)) (fun e => Br (ix1 e)) :=
    funext fun k => refScore_at X Wr Br b t k
  unfold refAll row
  rw [refOut_at]
  refine congrArg (· + B2 (ix2 7 d)) (Finset.sum_congr rfl fun f _ => congrArg (fun h => gelu h * W2 (ix3 7 f d)) ?_)
  rw [refHidden_at, hs]

end Reference

end Cert.Value

end
-- ==== Proof.Value.lean ====
/- The kernel's result and the reference's are one array at the ideal numbers: element by element both are the row's function
   (Row.lean) of the token's row and of the arguments. -/
module

public import proofs.«01_k».proof.Proof.Final
public import proofs.«01_k».proof.Proof.Pure

@[expose] public section

set_option maxRecDepth 16384

noncomputable section

namespace Cert.Value

open Idealize.ShloMosaic Idealize.ShloMosaic.TcCoe Idealize.SL.Sem

section Kernel
open Cert.KernelIdeal Cert.KernelIdeal.Gen

/-- The part that holds a row, and the row's place in it, name the row. -/
theorem row_split (R : Fin 32768) : 4096 * (rowBlk R).val + 1024 * (rowPart R).val + (rowIn R).val = R.val := by
  show 4096 * (R.val / 4096) + 1024 * (R.val % 4096 / 1024) + R.val % 1024 = R.val
  omega

/-- A part's words are the rows of the tokens that it stands for. -/
theorem xwords_at (c : Dev nD) (X : FVec Ideal S32768x768 .f32) (R : Fin 32768) (k : Fin 768) :
    (xwords (F := Ideal) c X (rowBlk R) (rowPart R) : FVec Ideal S1024x768 .f32) (ix2 (rowIn R) k) = X (ix2 R k) := by
  have e := row_split R
  have key : ∀ x : S32768x768.Idx, (x 0).val = 4096 * (rowBlk R).val + 1024 * (rowPart R).val + (rowIn R).val → (x 1).val = k.val →
      X x = X (ix2 R k) := by
    intro x e0 e1
    refine congrArg X (funext fun a => ?_)
    fin_cases a
    · exact Fin.ext (e0.trans e)
    · exact Fin.ext e1
  exact key ((xblk (rowBlk R) (rowPart R)).view.emb (ix2 (rowIn R) k))
    (by show 4096 * (rowBlk R).val + 1024 * (rowPart R).val + 1 * (rowIn R).val = _; omega) (by show 0 + 1 * k.val = _; omega)

theorem rowIdx_at (R : Fin 32768) (d : Fin 768) : rowIdx (ix2 R d) = ix2 (rowIn R) d := by
  funext a
  fin_cases a <;> rfl

variable (m : (ℓ : Loc nD τ sig) → Buf (Elt Ideal) ℓ)

/-- The kernel's result before its last reshape, at a row and a column. -/
theorem outBuf_at (c : Dev nD) (R : Fin 32768) (d : Fin 768) :
    (outBuf c (parts m c) : FVec Ideal S32768x768 .f32) (ix2 R d)
      = row (score (fun k => (tok m c : FVec Ideal S32768x768 .f32) (ix2 R k)) (fun k e => (V m c main_arg1 : FVec Ideal S768x8 .f32) (ix2 k e))
            (fun e => (V m c main_v1 : FVec Ideal S1x8 .f32) (ix2 0 e)))
          (fun e f => (V m c main_v3 : FVec Ideal S8x32 .f32) (ix2 e f)) (fun f => (V m c main_v6 : FVec Ideal S1x32 .f32) (ix2 0 f))
          (fun f d => (V m c main_v8 : FVec Ideal S32x768 .f32) (ix2 f d)) (fun d => (V m c main_v11 : FVec Ideal S1x768 .f32) (ix2 0 d)) d := by
  have h : (outBuf c (parts m c) : FVec Ideal S32768x768 .f32) (ix2 R d)
      = (parts m c (rowBlk R) (rowPart R) : FVec Ideal S1024x768 .f32) (ix2 (rowIn R) d) :=
    congrArg (parts m c (rowBlk R) (rowPart R)) (rowIdx_at R d)
  rw [h]
  refine (partOut_at _ _ _ _ _ _ _ (rowIn R) d).trans ?_
  exact congrArg (fun x => row (score x _ _) _ _ _ _ d) (funext fun k => xwords_at c (tok m c) R k)

/-- The row of the flat array where a token's row lies. -/
def flat (b : Fin 4) (t : Fin 8192) : Fin 32768 := ⟨b.val * 8192 + t.val, by omega⟩

/-! What the windows hold, at an element, of the arguments. -/

theorem tok_at (c : Dev nD) (b : Fin 4) (t : Fin 8192) (k : Fin 768) : (tok m c : FVec Ideal S32768x768 .f32) (ix2 (flat b t) k)
    = (m ((c.tc : Thread nD τ).loc main_arg0) : FVec Ideal S4x8192x768 .f32) (ix3 b t k) := by
  have key (X : FVec Ideal S4x8192x768 .f32) : shapeCast S32768x768 X shapeCasts_S4x8192x768_S32768x768 (ix2 (flat b t) k) = X (ix3 b t k) := by
    pointwise
    refine congrArg X ((ix3_inj ..).2 ⟨Fin.ext ?_, Fin.ext ?_, rfl⟩)
    · show (b.val * 8192 + t.val) / 8192 = b.val; omega
    · show (b.val * 8192 + t.val) % 8192 = t.val; omega
  exact (congrFun (tok_eq m c) (ix2 (flat b t) k)).trans (key _)

theorem br_at (c : Dev nD) (e : Fin 8) : (V m c main_v1 : FVec Ideal S1x8 .f32) (ix2 0 e)
    = (m ((c.tc : Thread nD τ).loc main_arg2) : FVec Ideal S8 .f32) (ix1 e) := by
  have key (X : FVec Ideal S8 .f32) : shapeCast S1x8 X shapeCasts_S8_S1x8 (ix2 0 e) = X (ix1 e) := by pointwise
  exact (congrFun (br_eq m c) (ix2 0 e)).trans (key _)

theorem w1_at (c : Dev nD) (e : Fin 8) (f : Fin 32) : (V m c main_v3 : FVec Ideal S8x32 .f32) (ix2 e f)
    = (m ((c.tc : Thread nD τ).loc main_arg3) : FVec Ideal S8x8x32 .f32) (ix3 7 e f) := by
  have key (X : FVec Ideal S8x8x32 .f32) : shapeCast S8x32 (extractStridedSlice S1x8x32 ![7, 0, 0] X slices_S8x8x32_S1x8x32_7_0_0) shapeCasts_S1x8x32_S8x32 (ix2 e f)
      = X (ix3 7 e f) := by pointwise
  exact (congrFun (w1_eq m c) (ix2 e f)).trans (key _)

theorem b1_at (c : Dev nD) (f : Fin 32) : (V m c main_v6 : FVec Ideal S1x32 .f32) (ix2 0 f)
    = (m ((c.tc : Thread nD τ).loc main_arg4) : FVec Ideal S8x32 .f32) (ix2 7 f) := by
  have key (X : FVec Ideal S8x32 .f32) : shapeCast S1x32 (shapeCast S32 (extractStridedSlice S1x32 ![7, 0] X slices_S8x32_S1x32_7_0) shapeCasts_S1x32_S32) shapeCasts_S32_S1x32 (ix2 0 f)
      = X (ix2 7 f) := by pointwise
  exact (congrFun (b1_eq m c) (ix2 0 f)).trans (key _)

theorem w2_at (c : Dev nD) (f : Fin 32) (d : Fin 768) : (V m c main_v8 : FVec Ideal S32x768 .f32) (ix2 f d)
    = (m ((c.tc : Thread nD τ).loc main_arg5) : FVec Ideal S8x32x768 .f32) (ix3 7 f d) := by
  have key (X : FVec Ideal S8x32x768 .f32) : shapeCast S32x768 (extractStridedSlice S1x32x768 ![7, 0, 0] X slices_S8x32x768_S1x32x768_7_0_0) shapeCasts_S1x32x768_S32x768 (ix2 f d)
      = X (ix3 7 f d) := by pointwise
  exact (congrFun (w2_eq m c) (ix2 f d)).trans (key _)

theorem b2_at (c : Dev nD) (d : Fin 768) : (V m c main_v11 : FVec Ideal S1x768 .f32) (ix2 0 d)
    = (m ((c.tc : Thread nD τ).loc main_arg6) : FVec Ideal S8x768 .f32) (ix2 7 d) := by
  have key (X : FVec Ideal S8x768 .f32) : shapeCast S1x768 (shapeCast S768 (extractStridedSlice S1x768 ![7, 0] X slices_S8x768_S1x768_7_0) shapeCasts_S1x768_S768) shapeCasts_S768_S1x768 (ix2 0 d)
      = X (ix2 7 d) := by pointwise
  exact (congrFun (b2_eq m c) (ix2 0 d)).trans (key _)

/-- The kernel's result, at an element: the row's function of the arguments. -/
theorem result_at (c : Dev nD) (b : Fin 4) (t : Fin 8192) (d : Fin 768) :
    (result m c : FVec Ideal S4x8192x768 .f32) (ix3 b t d)
      = row (score (fun k => (m ((c.tc : Thread nD τ).loc main_arg0) : FVec Ideal S4x8192x768 .f32) (ix3 b t k))
              (fun k e => (m ((c.tc : Thread nD τ).loc main_arg1) : FVec Ideal S768x8 .f32) (ix2 k e))
              (fun e => (m ((c.tc : Thread nD τ).loc main_arg2) : FVec Ideal S8 .f32) (ix1 e)))
          (fun e f => (m ((c.tc : Thread nD τ).loc main_arg3) : FVec Ideal S8x8x32 .f32) (ix3 7 e f))
          (fun f => (m ((c.tc : Thread nD τ).loc main_arg4) : FVec Ideal S8x32 .f32) (ix2 7 f))
          (fun f d => (m ((c.tc : Thread nD τ).loc main_arg5) : FVec Ideal S8x32x768 .f32) (ix3 7 f d))
          (fun d => (m ((c.tc : Thread nD τ).loc main_arg6) : FVec Ideal S8x768 .f32) (ix2 7 d)) d := by
  have key (Y : FVec Ideal S32768x768 .f32) : shapeCast S4x8192x768 Y shapeCasts_S32768x768_S4x8192x768 (ix3 b t d) = Y (ix2 (flat b t) d) := by
    pointwise
    rfl
  refine (key _).trans ((outBuf_at m c (flat b t) d).trans ?_)
  exact row_congr (tok_at m c b t) (fun k e => congrFun (V_main_arg1 m c) (ix2 k e)) (br_at m c) (w1_at m c) (b1_at m c) (w2_at m c) (b2_at m c) d

end Kernel

/-- The reference's result at the kernel's arguments is the kernel's. -/
theorem result_eq (m : (ℓ : Loc Cert.KernelIdeal.nD Cert.KernelIdeal.τ Cert.KernelIdeal.sig) → Buf (Elt Ideal) ℓ) (c : Dev Cert.KernelIdeal.nD) :
    refAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
    = Cert.KernelIdeal.result m c := by
  funext j
  rw [eq_ix3 j]
  exact (refAll_at _ _ _ _ _ _ _ (j 0) (j 1) (j 2)).trans (result_at m c (j 0) (j 1) (j 2)).symm

section Reference
open Cert.ReferenceIdeal Cert.ReferenceIdeal.Value

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198)
        = refAll (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run (F := Ideal) m ρ

end Reference

end Cert.Value

end
-- ==== Proof.Transport.lean ====
/- The kernel and its reading at the ideal numbers are one text: what is proved of the second's run at a number format
   holds of the first's run at that format. -/
module

public import proofs.«01_k».proof.Proof.Gen.Kernel
public import proofs.«01_k».proof.Proof.Gen.KernelIdeal

@[expose] public section

noncomputable section

namespace Cert.Transport

open Idealize.ShloMosaic Idealize.SL.Sem

variable {F : FTy → Type} [FloatOps F]
variable [hK : Cert.Kernel.Facts] [hI : Cert.KernelIdeal.Facts]

/-- The kernels' bodies are one. -/
theorem body_eq : @Cert.Kernel.cc0__moe_block F _ hK = @Cert.KernelIdeal.cc0__moe_block F _ hI := rfl

/-- The bodies' tables are one. -/
theorem defs0_eq : @Cert.Kernel.defs₀ F _ hK = @Cert.KernelIdeal.defs₀ F _ hI := by
  unfold Cert.Kernel.defs₀ Cert.KernelIdeal.defs₀
  refine congrArg Defs.onTc ?_
  funext l a
  match l with
  | 0 => rfl

/-- The tables with the pipelines' own entries are one. -/
theorem defs_eq : @Cert.Kernel.defs F _ hK = @Cert.KernelIdeal.defs F _ hI := by
  unfold Cert.Kernel.defs Cert.KernelIdeal.defs
  exact congrArg (Pipeline.defs Cert.KernelIdeal.pcfgs) defs0_eq

/-- The host programs are one. -/
theorem main_eq : @Cert.Kernel.main F _ = @Cert.KernelIdeal.main F _ := rfl

/-- A fact of the run of the one is a fact of the run of the other. -/
theorem run (m : (ℓ : Loc Cert.KernelIdeal.nD Cert.KernelIdeal.τ Cert.KernelIdeal.sig) → Buf (Elt F) ℓ) (g : Dev Cert.KernelIdeal.nD → PrngReg)
    (Q : PUnit × MemSt Cert.KernelIdeal.nD Cert.KernelIdeal.τ Cert.KernelIdeal.sig (Elt F) → Prop)
    (h : θ_run (@Cert.KernelIdeal.defs F _ hI) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq, main_eq]; exact h

end Cert.Transport

end
-- ==== Proof.lean ====
module

public import proofs.«01_k».proof.Defs
public import proofs.«01_k».proof.Proof.Final
public import proofs.«01_k».proof.Proof.Value
public import proofs.«01_k».proof.Proof.Transport
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- `Cert.quiescent_KernelIdeal`: the kernel's run at the ideal numbers, read at its arguments and its semaphores. -/
theorem frame_ideal : Cert.quiescent_KernelIdeal := fun m g _ =>
  (Cert.KernelIdeal.run (F := Ideal) m g).mono fun _ h => ⟨fun c => (h.1 c).2, h.2⟩

/-- `Cert.quiescent_Kernel`: the same run at the words of the machine's formats, the two programs being one text. -/
theorem frame_bits : Cert.quiescent_Kernel := fun m g _ =>
  Cert.Transport.run m g _ ((Cert.KernelIdeal.run (F := Bits) m g).mono fun _ h => ⟨fun c => (h.1 c).2, h.2⟩)

/-- `Cert.quiescent_ReferenceIdeal`: the reference's run, read at its arguments; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- `Cert.preserves_Kernel_KernelIdeal`: no operation was rewritten, so nothing is to be shown. -/
theorem preserves : Cert.preserves_Kernel_KernelIdeal := trivial

/-- `Cert.algebraic_KernelIdeal_ReferenceIdeal`: both runs end with the array that `Cert.Value.result_eq` says is one. -/
theorem algebraic : Cert.algebraic_KernelIdeal_ReferenceIdeal := by
  intro m g m' g' _ hargs
  refine ⟨fun c => Cert.KernelIdeal.result m c,
    (θ_run Cert.KernelIdeal.defs _ _).mono (fun _ h => h.1) (Cert.KernelIdeal.run (F := Ideal) m g), ?_⟩
  refine (θ_run Cert.ReferenceIdeal.defs _ _).mono (fun r h c => ⟨(h c).1.trans ?_, (h c).2⟩) (Cert.Value.ref_run m' g')
  obtain ⟨h0, h1, h2, h3, h4, h5, h6⟩ := hargs c
  rw [h0, h1, h2, h3, h4, h5, h6]
  exact Cert.Value.result_eq m c

theorem claim : Cert.Claim := ⟨Cert.Kernel.Gen.facts, Cert.KernelIdeal.Gen.facts, Cert.ReferenceIdeal.Gen.facts,
  frame_bits, frame_ideal, frame_reference, preserves, algebraic⟩

end Cert.Proof

end
